-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x64x32x32 : Shape := ⟨4, ![16, 64, 32, 32]⟩
abbrev S1024x64 : Shape := ⟨2, ![1024, 64]⟩
abbrev S_ : Shape := ⟨0, ![]⟩

class Facts : Prop where
  bcast_S_S16x64x32x32 : S_.BroadcastsInDim S16x64x32x32 (![] : Fin 0 → Fin S16x64x32x32.rank)
  reducesTo_S16x64x32x32_S_d0_1_2_3 : S16x64x32x32.ReducesTo [0, 1, 2, 3] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16x64x32x32 .f32) (main_arg1 : FVec F S1024x64 .f32) : IVec S_ 1 :=
  let main_v0 : FVec F S16x64x32x32 .f32 := Host.absf main_arg0
  let main_cst : FVec F S_ .f32 := constant S_ .f32 0x7F800000#32
  let main_v1 : FVec F S16x64x32x32 .f32 := broadcastInDim S16x64x32x32 ![] bcast_S_S16x64x32x32 main_cst
  let main_v2 : IVec S16x64x32x32 1 := cmpf .olt main_v0 main_v1
  let main_c : IVec S_ 1 := constantI S_ 1 1#1
  let main_v3 : IVec S_ 1 := (fun x v => Host.reduce IntOp.andi x v reducesTo_S16x64x32x32_S_d0_1_2_3 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S64x1024 : Shape := ⟨2, ![64, 1024]⟩
abbrev S16384x1 : Shape := ⟨2, ![16384, 1]⟩
abbrev S1 : Shape := ⟨1, ![1]⟩
abbrev S1x32x32x64 : Shape := ⟨4, ![1, 32, 32, 64]⟩
abbrev S1024x1 : Shape := ⟨2, ![1024, 1]⟩
abbrev S3 : Shape := ⟨1, ![3]⟩
abbrev S32x32x64 : Shape := ⟨3, ![32, 32, 64]⟩
abbrev S1024 : Shape := ⟨1, ![1024]⟩
abbrev S1x1024 : Shape := ⟨2, ![1, 1024]⟩
abbrev S256x64 : Shape := ⟨2, ![256, 64]⟩
abbrev S256 : Shape := ⟨1, ![256]⟩
abbrev S256x1 : Shape := ⟨2, ![256, 1]⟩
abbrev S256x1024 : Shape := ⟨2, ![256, 1024]⟩
abbrev S1x1 : Shape := ⟨2, ![1, 1]⟩
abbrev S16x32x32 : Shape := ⟨3, ![16, 32, 32]⟩
abbrev S16x128x32 : Shape := ⟨3, ![16, 128, 32]⟩
abbrev S_ : Shape := ⟨0, ![]⟩

abbrev nBuf : Space → Nat
  | .hbm => 11
  | .vmem => 8
  | .smem => 2
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S64x1024, .f32⟩
  | .hbm, ⟨4, _⟩ => ⟨S16x32x32x64, .f32⟩
  | .hbm, ⟨5, _⟩ => ⟨S16384x1, .i32⟩
  | .hbm, ⟨6, _⟩ => ⟨S1, .f32⟩
  | .hbm, ⟨7, _⟩ => ⟨S16x64x32x32, .f32⟩
  | .hbm, ⟨8, _⟩ => ⟨S16x32x32, .i32⟩
  | .hbm, ⟨9, _⟩ => ⟨S16x128x32, .i32⟩
  | .hbm, ⟨10, _⟩ => ⟨S_, .f32⟩
  | .local _ .vmem, ⟨0, _⟩ => ⟨S1x32x32x64, .f32⟩
  | .local _ .vmem, ⟨1, _⟩ => ⟨S1x32x32x64, .f32⟩
  | .local _ .vmem, ⟨2, _⟩ => ⟨S1024x64, .f32⟩
  | .local _ .vmem, ⟨3, _⟩ => ⟨S64x1024, .f32⟩
  | .local _ .vmem, ⟨4, _⟩ => ⟨S1x32x32x64, .f32⟩
  | .local _ .vmem, ⟨5, _⟩ => ⟨S1x32x32x64, .f32⟩
  | .local _ .vmem, ⟨6, _⟩ => ⟨S1024x1, .i32⟩
  | .local _ .vmem, ⟨7, _⟩ => ⟨S1024x1, .i32⟩
  | .local _ .smem, ⟨0, _⟩ => ⟨S1, .f32⟩
  | .local _ .smem, ⟨1, _⟩ => ⟨S3, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v198 : BitVec 1 := Scalar.cmpi .eq arg0 c15_i32
  let v199 : BitVec 32 := Scalar.extui v198
  let c0_i32_72 : BitVec 32 := 0#32
  let v200 : BitVec 1 := Scalar.cmpi .ne v199 c0_i32_72
  v200

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x32x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16x64x32x32 : Shape := ⟨4, ![16, 64, 32, 32]⟩
abbrev S1024x64 : Shape := ⟨2, ![1024, 64]⟩
abbrev S_ : Shape := ⟨0, ![]⟩
abbrev S16x32x32x64 : Shape := ⟨4, ![16, 32, 32, 64]⟩
abbrev S16384x64 : Shape := ⟨2, ![16384, 64]⟩
abbrev S16384 : Shape := ⟨1, ![16384]⟩
abbrev S16384x1 : Shape := ⟨2, ![16384, 1]⟩
abbrev S1024 : Shape := ⟨1, ![1024]⟩
abbrev S1024x1 : Shape := ⟨2, ![1024, 1]⟩
abbrev S1x1024 : Shape := ⟨2, ![1, 1024]⟩
abbrev S64x1024 : Shape := ⟨2, ![64, 1024]⟩
abbrev S16384x1024 : Shape := ⟨2, ![16384, 1024]⟩
abbrev S16x32x32 : Shape := ⟨3, ![16, 32, 32]⟩
abbrev S16x32x32x1 : Shape := ⟨4, ![16, 32, 32, 1]⟩
abbrev S16x128x32 : Shape := ⟨3, ![16, 128, 32]⟩

abbrev nBuf : Space → Nat
  | .hbm => 236
  | .vmem => 0
  | .smem => 0
  | _ => 0

abbrev hbmTy0_0 (i : Nat) : BufTy := match i % 128 with
  | 0 => ⟨S16x64x32x32, .f32⟩
  | 1 => ⟨S1024x64, .f32⟩
  | 2 => ⟨S_, .f32⟩
  | 3 => ⟨S16x64x32x32, .f32⟩
  | 4 => ⟨S16x32x32x64, .f32⟩
  | 5 => ⟨S16384x64, .f32⟩
  | 6 => ⟨S16384x64, .f32⟩
  | 7 => ⟨S_, .f32⟩
  | 8 => ⟨S16384, .f32⟩
  | 9 => ⟨S16384x1, .f32⟩
  | 10 => ⟨S1024x64, .f32⟩
  | 11 => ⟨S_, .f32⟩
  | 12 => ⟨S1024, .f32⟩
  | 13 => ⟨S1024x1, .f32⟩
  | 14 => ⟨S1x1024, .f32⟩
  | 15 => ⟨S64x1024, .f32⟩
  | 16 => ⟨S16384x1024, .f32⟩
  | 17 => ⟨S_, .f32⟩
  | 18 => ⟨S16384x1024, .f32⟩
  | 19 => ⟨S16384x1024, .f32⟩
  | 20 => ⟨S16384x1024, .f32⟩
  | 21 => ⟨S16384x1024, .f32⟩
  | 22 => ⟨S16384x1024, .f32⟩
  | 23 => ⟨S16384x1024, .f32⟩
  | 24 => ⟨S_, .f32⟩
  | 25 => ⟨S16384x1024, .f32⟩
  | 26 => ⟨S16384x1024, .f32⟩
  | 27 => ⟨S16384x1024, .f32⟩
  | 28 => ⟨S16384x1024, .i32⟩
  | 29 => ⟨S_, .f32⟩
  | 30 => ⟨S_, .i32⟩
  | 31 => ⟨S16384, .f32⟩
  | 32 => ⟨S16384, .i32⟩
  | 33 => ⟨S16x32x32, .i32⟩
  | 34 => ⟨S_, .i32⟩
  | 35 => ⟨S16x32x32, .i32⟩
  | 36 => ⟨S16x32x32, .i1⟩
  | 37 => ⟨S_, .i32⟩
  | 38 => ⟨S16x32x32, .i32⟩
  | 39 => ⟨S16x32x32, .i32⟩
  | 40 => ⟨S16x32x32, .i32⟩
  | 41 => ⟨S16x32x32x1, .i32⟩
  | 42 => ⟨S16x32x32x64, .f32⟩
  | 43 => ⟨S16x64x32x32, .f32⟩
  | 44 => ⟨S16x64x32x32, .f32⟩
  | 45 => ⟨S16x64x32x32, .f32⟩
  | 46 => ⟨S16x64x32x32, .f32⟩
  | 47 => ⟨S16x64x32x32, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S16x64x32x32, .f32⟩
  | 57 => ⟨S16x64x32x32, .f32⟩
  | 58 => ⟨S_, .f32⟩
  | 59 => ⟨S_, .f32⟩
  | 60 => ⟨S_, .f32⟩
  | 61 => ⟨S_, .f32⟩
  | 62 => ⟨S_, .f32⟩
  | 63 => ⟨S16384x64, .f32⟩
  | 64 => ⟨S_, .f32⟩
  | 65 => ⟨S16384, .f32⟩
  | 66 => ⟨S16384x1, .f32⟩
  | 67 => ⟨S1024x64, .f32⟩
  | 68 => ⟨S_, .f32⟩
  | 69 => ⟨S1024, .f32⟩
  | 70 => ⟨S1024x1, .f32⟩
  | 71 => ⟨S1x1024, .f32⟩
  | 72 => ⟨S64x1024, .f32⟩
  | 73 => ⟨S16384x1024, .f32⟩
  | 74 => ⟨S_, .f32⟩
  | 75 => ⟨S16384x1024, .f32⟩
  | 76 => ⟨S16384x1024, .f32⟩
  | 77 => ⟨S16384x1024, .f32⟩
  | 78 => ⟨S16384x1024, .f32⟩
  | 79 => ⟨S16384x1024, .f32⟩
  | 80 => ⟨S16384x1024, .f32⟩
  | 81 => ⟨S_, .f32⟩
  | 82 => ⟨S16384x1024, .f32⟩
  | 83 => ⟨S16384x1024, .f32⟩
  | 84 => ⟨S16384x1024, .f32⟩
  | 85 => ⟨S16384x1024, .i32⟩
  | 86 => ⟨S_, .f32⟩
  | 87 => ⟨S_, .i32⟩
  | 88 => ⟨S16384, .f32⟩
  | 89 => ⟨S16384, .i32⟩
  | 90 => ⟨S16x32x32, .i32⟩
  | 91 => ⟨S_, .i32⟩
  | 92 => ⟨S16x32x32, .i32⟩
  | 93 => ⟨S16x32x32, .i1⟩
  | 94 => ⟨S_, .i32⟩
  | 95 => ⟨S16x32x32, .i32⟩
  | 96 => ⟨S16x32x32, .i32⟩
  | 97 => ⟨S16x32x32, .i32⟩
  | 98 => ⟨S16x32x32x1, .i32⟩
  | 99 => ⟨S16x32x32x64, .f32⟩
  | 100 => ⟨S16x64x32x32, .f32⟩
  | 101 => ⟨S16x64x32x32, .f32⟩
  | 102 => ⟨S16x64x32x32, .f32⟩
  | 103 => ⟨S16x64x32x32, .f32⟩
  | 104 => ⟨S16x64x32x32, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S16x64x32x32, .f32⟩
  | 113 => ⟨S16x64x32x32, .f32⟩
  | 114 => ⟨S_, .f32⟩
  | 115 => ⟨S_, .f32⟩
  | 116 => ⟨S_, .f32⟩
  | 117 => ⟨S_, .f32⟩
  | 118 => ⟨S_, .f32⟩
  | 119 => ⟨S16384x64, .f32⟩
  | 120 => ⟨S_, .f32⟩
  | 121 => ⟨S16384, .f32⟩
  | 122 => ⟨S16384x1, .f32⟩
  | 123 => ⟨S1024x64, .f32⟩
  | 124 => ⟨S_, .f32⟩
  | 125 => ⟨S1024, .f32⟩
  | 126 => ⟨S1024x1, .f32⟩
  | 127 => ⟨S1x1024, .f32⟩
  | _ => ⟨S16x64x32x32, .f32⟩

abbrev hbmTy0_1 (i : Nat) : BufTy := match i % 128 with
  | 0 => ⟨S64x1024, .f32⟩
  | 1 => ⟨S16384x1024, .f32⟩
  | 2 => ⟨S_, .f32⟩
  | 3 => ⟨S16384x1024, .f32⟩
  | 4 => ⟨S16384x1024, .f32⟩
  | 5 => ⟨S16384x1024, .f32⟩
  | 6 => ⟨S16384x1024, .f32⟩
  | 7 => ⟨S16384x1024, .f32⟩
  | 8 => ⟨S16384x1024, .f32⟩
  | 9 => ⟨S_, .f32⟩
  | 10 => ⟨S16384x1024, .f32⟩
  | 11 => ⟨S16384x1024, .f32⟩
  | 12 => ⟨S16384x1024, .f32⟩
  | 13 => ⟨S16384x1024, .i32⟩
  | 14 => ⟨S_, .f32⟩
  | 15 => ⟨S_, .i32⟩
  | 16 => ⟨S16384, .f32⟩
  | 17 => ⟨S16384, .i32⟩
  | 18 => ⟨S16x32x32, .i32⟩
  | 19 => ⟨S_, .i32⟩
  | 20 => ⟨S16x32x32, .i32⟩
  | 21 => ⟨S16x32x32, .i1⟩
  | 22 => ⟨S_, .i32⟩
  | 23 => ⟨S16x32x32, .i32⟩
  | 24 => ⟨S16x32x32, .i32⟩
  | 25 => ⟨S16x32x32, .i32⟩
  | 26 => ⟨S16x32x32x1, .i32⟩
  | 27 => ⟨S16x32x32x64, .f32⟩
  | 28 => ⟨S16x64x32x32, .f32⟩
  | 29 => ⟨S16x64x32x32, .f32⟩
  | 30 => ⟨S16x64x32x32, .f32⟩
  | 31 => ⟨S16x64x32x32, .f32⟩
  | 32 => ⟨S16x64x32x32, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S16x64x32x32, .f32⟩
  | 41 => ⟨S16x64x32x32, .f32⟩
  | 42 => ⟨S_, .f32⟩
  | 43 => ⟨S_, .f32⟩
  | 44 => ⟨S_, .f32⟩
  | 45 => ⟨S_, .f32⟩
  | 46 => ⟨S_, .f32⟩
  | 47 => ⟨S16384x64, .f32⟩
  | 48 => ⟨S_, .f32⟩
  | 49 => ⟨S16384, .f32⟩
  | 50 => ⟨S16384x1, .f32⟩
  | 51 => ⟨S1024x64, .f32⟩
  | 52 => ⟨S_, .f32⟩
  | 53 => ⟨S1024, .f32⟩
  | 54 => ⟨S1024x1, .f32⟩
  | 55 => ⟨S1x1024, .f32⟩
  | 56 => ⟨S64x1024, .f32⟩
  | 57 => ⟨S16384x1024, .f32⟩
  | 58 => ⟨S_, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S16384x1024, .f32⟩
  | 65 => ⟨S_, .f32⟩
  | 66 => ⟨S16384x1024, .f32⟩
  | 67 => ⟨S16384x1024, .f32⟩
  | 68 => ⟨S16384x1024, .f32⟩
  | 69 => ⟨S16384x1024, .i32⟩
  | 70 => ⟨S_, .f32⟩
  | 71 => ⟨S_, .i32⟩
  | 72 => ⟨S16384, .f32⟩
  | 73 => ⟨S16384, .i32⟩
  | 74 => ⟨S16x32x32, .i32⟩
  | 75 => ⟨S_, .i32⟩
  | 76 => ⟨S16x32x32, .i32⟩
  | 77 => ⟨S16x32x32, .i1⟩
  | 78 => ⟨S_, .i32⟩
  | 79 => ⟨S16x32x32, .i32⟩
  | 80 => ⟨S16x32x32, .i32⟩
  | 81 => ⟨S16x32x32, .i32⟩
  | 82 => ⟨S16x32x32x1, .i32⟩
  | 83 => ⟨S16x32x32x64, .f32⟩
  | 84 => ⟨S16x64x32x32, .f32⟩
  | 85 => ⟨S16x64x32x32, .f32⟩
  | 86 => ⟨S16x64x32x32, .f32⟩
  | 87 => ⟨S16x64x32x32, .f32⟩
  | 88 => ⟨S16x64x32x32, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S16x64x32x32, .f32⟩
  | 97 => ⟨S16x64x32x32, .f32⟩
  | 98 => ⟨S_, .f32⟩
  | 99 => ⟨S_, .f32⟩
  | 100 => ⟨S_, .f32⟩
  | 101 => ⟨S_, .f32⟩
  | 102 => ⟨S_, .f32⟩
  | 103 => ⟨S16x128x32, .i32⟩
  | 104 => ⟨S_, .f32⟩
  | 105 => ⟨S_, .f32⟩
  | 106 => ⟨S16x64x32x32, .f32⟩
  | 107 => ⟨S16x64x32x32, .f32⟩
  | _ => ⟨S16x64x32x32, .f32⟩

abbrev hbmTy (i : Nat) : BufTy := match i / 128 with
  | 0 => hbmTy0_0 i
  | 1 => hbmTy0_1 i
  | _ => ⟨S16x64x32x32, .f32⟩

abbrev bufTy : (tb : Table) → Fin (tcTables nBuf tb) → BufTy
  | .hbm, ⟨i, _⟩ => hbmTy i
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_cst : Ref sig .tc := ⟨.hbm, 29, rfl⟩
abbrev main_call0_c : Ref sig .tc := ⟨.hbm, 30, rfl⟩
abbrev main_call0_v1_0 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_v0 : Ref sig .tc := ⟨.hbm, 85, rfl⟩
abbrev main_call1_cst : Ref sig .tc := ⟨.hbm, 86, rfl⟩
abbrev main_call1_c : Ref sig .tc := ⟨.hbm, 87, rfl⟩
abbrev main_call1_v1_0 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_17 : Ref sig .tc := ⟨.hbm, 105, rfl⟩
abbrev main_v76 : Ref sig .tc := ⟨.hbm, 106, rfl⟩
abbrev main_cst_18 : Ref sig .tc := ⟨.hbm, 107, rfl⟩
abbrev main_v77 : Ref sig .tc := ⟨.hbm, 108, rfl⟩
abbrev main_cst_19 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_20 : Ref sig .tc := ⟨.hbm, 114, rfl⟩
abbrev main_v82 : Ref sig .tc := ⟨.hbm, 115, rfl⟩
abbrev main_cst_21 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_22 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_23 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_24 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_25 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_call2_v0 : Ref sig .tc := ⟨.hbm, 141, rfl⟩
abbrev main_call2_cst : Ref sig .tc := ⟨.hbm, 142, rfl⟩
abbrev main_call2_c : Ref sig .tc := ⟨.hbm, 143, rfl⟩
abbrev main_call2_v1_0 : Ref sig .tc := ⟨.hbm, 144, rfl⟩
abbrev main_v103 : Ref sig .tc := ⟨.hbm, 145, rfl⟩
abbrev main_v104 : Ref sig .tc := ⟨.hbm, 146, rfl⟩
abbrev main_c_26 : Ref sig .tc := ⟨.hbm, 147, rfl⟩
abbrev main_v105 : Ref sig .tc := ⟨.hbm, 148, rfl⟩
abbrev main_v106 : Ref sig .tc := ⟨.hbm, 149, rfl⟩
abbrev main_c_27 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_28 : Ref sig .tc := ⟨.hbm, 161, rfl⟩
abbrev main_v117 : Ref sig .tc := ⟨.hbm, 162, rfl⟩
abbrev main_cst_29 : Ref sig .tc := ⟨.hbm, 163, rfl⟩
abbrev main_v118 : Ref sig .tc := ⟨.hbm, 164, rfl⟩
abbrev main_cst_30 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_31 : Ref sig .tc := ⟨.hbm, 170, rfl⟩
abbrev main_v123 : Ref sig .tc := ⟨.hbm, 171, rfl⟩
abbrev main_cst_32 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_33 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_34 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_35 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_36 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_call3_v0 : Ref sig .tc := ⟨.hbm, 197, rfl⟩
abbrev main_call3_cst : Ref sig .tc := ⟨.hbm, 198, rfl⟩
abbrev main_call3_c : Ref sig .tc := ⟨.hbm, 199, rfl⟩
abbrev main_call3_v1_0 : Ref sig .tc := ⟨.hbm, 200, rfl⟩
abbrev main_v144 : Ref sig .tc := ⟨.hbm, 201, rfl⟩
abbrev main_v145 : Ref sig .tc := ⟨.hbm, 202, rfl⟩
abbrev main_c_37 : Ref sig .tc := ⟨.hbm, 203, rfl⟩
abbrev main_v146 : Ref sig .tc := ⟨.hbm, 204, rfl⟩
abbrev main_v147 : Ref sig .tc := ⟨.hbm, 205, rfl⟩
abbrev main_c_38 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_cst_39 : Ref sig .tc := ⟨.hbm, 217, rfl⟩
abbrev main_v158 : Ref sig .tc := ⟨.hbm, 218, rfl⟩
abbrev main_cst_40 : Ref sig .tc := ⟨.hbm, 219, rfl⟩
abbrev main_v159 : Ref sig .tc := ⟨.hbm, 220, rfl⟩
abbrev main_cst_41 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_cst_42 : Ref sig .tc := ⟨.hbm, 226, rfl⟩
abbrev main_v164 : Ref sig .tc := ⟨.hbm, 227, rfl⟩
abbrev main_cst_43 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_cst_44 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩

abbrev nD : Nat := 1
abbrev τ : Topo := Topo.v7x

variable {F : FTy → Type} [FloatOps F]
-- ==== Proof.RefFrame.lean ====
/-
  The reference runs to completion, leaves its two arguments as they were, and leaves every counter at zero.
-/
module

public import proofs.«01_k».proof.Defs
public import proofs.«01_k».proof.Proof.Gen.ReferenceIdeal
public import proofs.«01_k».proof.Proof.Gen.Pre_finite
public import Idealize.ShloMosaic.Adequacy
public import Idealize.ShloMosaic.Init
public import Idealize.ShloMosaic.Lib.Claim
public import Idealize.ShloMosaic.Lib.Quiescent

@[expose] public section

set_option maxRecDepth 16384
noncomputable section
namespace Cert.RefFrame

open Idealize.ShloMosaic Idealize.SL.Sem

set_option maxHeartbeats 1600000 in
/-- The reference declares no counter. -/
theorem no_counter : Cert.ReferenceIdeal.sig.nSem + Cert.ReferenceIdeal.sig.nDmaSem = 0 := by decide

/-- The reference, from any memory: its arguments end unchanged, and its counters are zero, there being none. -/
theorem frame : Cert.quiescent_ReferenceIdeal := by
  intro m g hm
  hlo_run
  · exact fun _ => ⟨trivial, trivial⟩
  · exact sem_eq_zero_of_no_sems no_counter _

/-- The same from the memories the precondition admits. -/
theorem frame_finite : Cert.quiescent_ReferenceIdeal_pre_finite :=
  fun m g _ => frame m g trivial

end Cert.RefFrame

end
-- ==== Proof.RefTerm.lean ====
/-
  The reference's results as terms over its two arguments, the latents `z` and the codebook `e`: one round's distances,
  nearest indices and looked-up rows, then the four rounds' running reconstruction and running loss. `run` says that
  the reference ends holding these terms.
-/
module

public import proofs.«01_k».proof.Defs
public import proofs.«01_k».proof.Proof.Gen.ReferenceIdeal
public import Idealize.ShloMosaic.Adequacy
public import Idealize.ShloMosaic.Init
public import Idealize.ShloMosaic.Lib.Claim

@[expose] public section

set_option maxRecDepth 16384
noncomputable section
namespace Cert.RefTerm

open Idealize.ShloMosaic Idealize.SL.Sem Cert.ReferenceIdeal Cert.ReferenceIdeal.Facts₀

/-- The latents with the channel last, one row of 64 per position. -/
def rows (z : FVec Ideal S16x64x32x32 .f32) : FVec Ideal S16384x64 .f32 :=
  shapeCast S16384x64 (transpose S16x32x32x64 [0, 2, 3, 1] z transposes_S16x64x32x32_S16x32x32x64_0_2_3_1) shapeCasts_S16x32x32x64_S16384x64

/-- The squared distance of every row to every code: the row's square sum, less twice the product, plus the code's square sum. -/
def dist2 (x : FVec Ideal S16384x64 .f32) (e : FVec Ideal S1024x64 .f32) : FVec Ideal S16384x1024 .f32 :=
  addf
    (subf
      (broadcastInDim S16384x1024 ![0, 1] bcast_S16384x1_S16384x1024_0_1
        (broadcastInDim S16384x1 ![0] bcast_S16384_S16384x1_0
          (Host.reduceAdd (mulf x x) (constant S_ .f32 0x00000000#32) reducesTo_S16384x64_S16384_d1 h_S_)))
      (mulf (broadcastInDim S16384x1024 ![] bcast_S_S16384x1024 (constant S_ .f32 0x40000000#32))
        (Host.dotGeneral dot_S16384x64_S64x1024_S16384x1024_1_0_0_1_n_n none x
          (transpose S64x1024 [1, 0] e transposes_S1024x64_S64x1024_1_0))))
    (broadcastInDim S16384x1024 ![0, 1] bcast_S1x1024_S16384x1024_0_1
      (transpose S1x1024 [1, 0]
        (broadcastInDim S1024x1 ![0] bcast_S1024_S1024x1_0
          (Host.reduceAdd (mulf e e) (constant S_ .f32 0x00000000#32) reducesTo_S1024x64_S1024_d1 h_S_))
        transposes_S1024x1_S1x1024_1_0))

/-- The distance of every row to every code: the square root of the squared distance cut off at zero. -/
def distOf (x : FVec Ideal S16384x64 .f32) (e : FVec Ideal S1024x64 .f32) : FVec Ideal S16384x1024 .f32 :=
  Host.sqrt (maximumf (dist2 x e) (broadcastInDim S16384x1024 ![] bcast_S_S16384x1024 (constant S_ .f32 0x00000000#32)))

/-- The argument minimum of every row of `x` over the numbers `y`, begun at `u` and `v`. -/
def argminBy (x : FVec Ideal S16384x1024 .f32) (y : IVec S16384x1024 32) (u : FVec Ideal S_ .f32) (v : IVec S_ 32) : IVec S16384 32 := fun j =>
  (Host.argReduce reducer_argmin_f32_i32 x y u v reducesTo_S16384x1024_S16384_d1 h_S_ j).2

/-- The first index of the least entry of every row. -/
def argmin (d : FVec Ideal S16384x1024 .f32) : IVec S16384 32 :=
  argminBy d (iotaInDim S16384x1024 32 1) (constant S_ .f32 0x7F800000#32) (constantI S_ 32 0#32)

/-- Those indices by image, row and column. -/
def indexOf (d : FVec Ideal S16384x1024 .f32) : IVec S16x32x32 32 := shapeCast S16x32x32 (argmin d) shapeCasts_S16384_S16x32x32

/-- Indices as the look-up takes them: a negative one counted from the end. -/
def wrapped (i : IVec S16x32x32 32) : IVec S16x32x32 32 :=
  select (cmpi .slt i (broadcastInDim S16x32x32 ![] bcast_S_S16x32x32 (constantI S_ 32 0#32)))
    (addi i (broadcastInDim S16x32x32 ![] bcast_S_S16x32x32 (constantI S_ 32 1024#32))) i

/-- The codes looked up, the channel last. -/
def looked (e : FVec Ideal S1024x64 .f32) (i : IVec S16x32x32 32) : FVec Ideal S16x32x32x64 .f32 :=
  Host.gather gather_S1024x64_S16x32x32x1_S16x32x32x64_3_0_n_n_0_3_164 e
    (broadcastInDim S16x32x32x1 ![0, 1, 2] bcast_S16x32x32_S16x32x32x1_0_1_2 (wrapped i))

/-- The codes looked up, the channel second. -/
def codeOf (e : FVec Ideal S1024x64 .f32) (i : IVec S16x32x32 32) : FVec Ideal S16x64x32x32 .f32 :=
  transpose S16x64x32x32 [0, 3, 1, 2] (looked e i) transposes_S16x32x32x64_S16x64x32x32_0_3_1_2

/-- The mean over all entries of the squared difference of `x` and `z`. -/
def meanSq (x z : FVec Ideal S16x64x32x32 .f32) : FVec Ideal S_ .f32 :=
  Host.divf (Host.reduceAdd (mulf (subf x z) (subf x z)) (constant S_ .f32 0x00000000#32) reducesTo_S16x64x32x32_S_d0_1_2_3 h_S_)
    (constant S_ .f32 0x49800000#32)

/-- A round's loss added: a quarter of the mean squared difference, then the whole of it. -/
def lossStep (l : FVec Ideal S_ .f32) (x z : FVec Ideal S16x64x32x32 .f32) : FVec Ideal S_ .f32 :=
  addf (addf l (mulf (constant S_ .f32 0x3E800000#32) (meanSq x z))) (meanSq x z)

/-- The index of the nearest code at every position. -/
def index (z : FVec Ideal S16x64x32x32 .f32) (e : FVec Ideal S1024x64 .f32) : IVec S16x32x32 32 := indexOf (distOf (rows z) e)

/-- The nearest code at every position. -/
def code (z : FVec Ideal S16x64x32x32 .f32) (e : FVec Ideal S1024x64 .f32) : FVec Ideal S16x64x32x32 .f32 := codeOf e (index z e)

/-- The reconstruction after `n` rounds: the codes added `n` times to zero. -/
def recon (z : FVec Ideal S16x64x32x32 .f32) (e : FVec Ideal S1024x64 .f32) : Nat → FVec Ideal S16x64x32x32 .f32
  | 0 => broadcastInDim S16x64x32x32 ![] bcast_S_S16x64x32x32 (constant S_ .f32 0x00000000#32)
  | n + 1 => addf (recon z e n) (code z e)

/-- The loss after `n` rounds: each round adds a quarter of its mean, then its mean. -/
def loss (z : FVec Ideal S16x64x32x32 .f32) (e : FVec Ideal S1024x64 .f32) : Nat → FVec Ideal S_ .f32
  | 0 => constant S_ .f32 0x00000000#32
  | n + 1 => lossStep (loss z e n) (recon z e (n + 1)) z

/-- The first result: the latents plus what the reconstruction differs from them by. -/
def out0 (z : FVec Ideal S16x64x32x32 .f32) (e : FVec Ideal S1024x64 .f32) : FVec Ideal S16x64x32x32 .f32 :=
  addf z (subf (recon z e 4) z)

/-- The second result: the mean of the four rounds' losses. -/
def out1 (z : FVec Ideal S16x64x32x32 .f32) (e : FVec Ideal S1024x64 .f32) : FVec Ideal S_ .f32 :=
  Host.divf (loss z e 4) (constant S_ .f32 0x40800000#32)

/-- Four rounds' indices, one after the other. -/
def four (i₁ i₂ i₃ i₄ : IVec S16x32x32 32) : IVec S16x128x32 32 :=
  concatenate S16x128x32 1 [⟨S16x32x32, i₁⟩, ⟨S16x32x32, i₂⟩, ⟨S16x32x32, i₃⟩, ⟨S16x32x32, i₄⟩]
    concatenates_S16x32x32_S16x32x32_S16x32x32_S16x32x32_S16x128x32_d1

/-- The third result: the four rounds' indices, one after the other. -/
def out2 (z : FVec Ideal S16x64x32x32 .f32) (e : FVec Ideal S1024x64 .f32) : IVec S16x128x32 32 :=
  four (index z e) (index z e) (index z e) (index z e)

end Cert.RefTerm

end
-- ==== Proof.RefRun.lean ====
/-
  The reference's run: its operations cut at the four distances, what each stretch leaves of what the stretch before it left, and so what
  the whole run ends with.
-/
module

public import proofs.«01_k».proof.Proof.RefTerm
public import Idealize.ShloMosaic.Lib.StableHlo.RunHlo
public import Idealize.ShloMosaic.Lib.StableHlo.RunRead

@[expose] public section

set_option maxRecDepth 16384
noncomputable section
namespace Cert.RefRun

open Idealize.ShloMosaic Idealize.SL.Sem Cert.ReferenceIdeal Cert.ReferenceIdeal.Facts₀ Cert.RefTerm StableHlo

/-- A line is its first `k` operations, then the rest. -/
theorem after_cut (k : Nat) (ops : List (HloOp τ sig (Elt Ideal))) (V : Valuation τ sig (Elt Ideal)) :
    after ops V = after (ops.drop k) (after (ops.take k) V) := by
  induction ops generalizing k V with
  | nil => cases k <;> rfl
  | cons op l ih => cases k with
    | zero => rfl
    | succ k => exact ih k _

/-- A call's result, its operands and itself carried to and from their buffers, is the result of the operands. -/
theorem uncast {r r0 r1 r2 r3 : Ref sig .tc} {h h' h0 h0' h1 h1' h2 h2' h3 h3'}
    (G : r0.ty.Contents (Elt Ideal) → r1.ty.Contents (Elt Ideal) → r2.ty.Contents (Elt Ideal) → r3.ty.Contents (Elt Ideal) →
      r.ty.Contents (Elt Ideal))
    (x : r0.ty.Contents (Elt Ideal)) (y : r1.ty.Contents (Elt Ideal)) (u : r2.ty.Contents (Elt Ideal)) (v : r3.ty.Contents (Elt Ideal)) :
    (TRef.of (T := r.ty) r rfl h h').toBuf (G ((TRef.of (T := r0.ty) r0 rfl h0 h0').ofBuf x)
      ((TRef.of (T := r1.ty) r1 rfl h1 h1').ofBuf ((TRef.of (T := r1.ty) r1 rfl h1 h1').toBuf y))
      ((TRef.of (T := r2.ty) r2 rfl h2 h2').ofBuf ((TRef.of (T := r2.ty) r2 rfl h2 h2').toBuf u))
      ((TRef.of (T := r3.ty) r3 rfl h3 h3').ofBuf ((TRef.of (T := r3.ty) r3 rfl h3 h3').toBuf v))) = G x y u v := rfl

/-- The contents of the device's buffers. -/
abbrev State := Valuation τ sig (Elt Ideal)

/-- What one buffer holds. -/
abbrev rd (σ : State) (b : Ref sig .tc) : b.ty.Contents (Elt Ideal) := σ (Proc.devRef .tc b)

/-- The listed buffers hold what they held. -/
def Same (σ σ' : State) : List (Ref sig .tc) → Prop
  | [] => True
  | b :: l => rd σ' b = rd σ b ∧ Same σ σ' l

/-- A round over latents `z` and codes `e`, once the nearest codes `m` are found: from a reconstruction `r` and a loss `l`, the indices, the next
reconstruction and the next loss. -/
def Round (z : FVec Ideal S16x64x32x32 .f32) (e : FVec Ideal S1024x64 .f32) (m : IVec S16384 32) (r : FVec Ideal S16x64x32x32 .f32)
    (l : FVec Ideal S_ .f32) (i' : IVec S16x32x32 32) (r' : FVec Ideal S16x64x32x32 .f32) (l' : FVec Ideal S_ .f32) : Prop :=
  i' = shapeCast S16x32x32 m shapeCasts_S16384_S16x32x32 ∧ r' = addf r (codeOf e i') ∧ l' = lossStep l r' z

/-- The stretch to the first distance. -/
def Dist1 (σ σ' : State) : Prop :=
  rd σ' main_v2 = rows (rd σ main_arg0) ∧ rd σ' main_v20 = distOf (rows (rd σ main_arg0)) (rd σ main_arg1)
    ∧ rd σ' main_v0 = recon (rd σ main_arg0) (rd σ main_arg1) 0 ∧ Same σ σ' [main_arg0, main_arg1]

/-- The search of the first round. -/
def Search1 (σ σ' : State) : Prop :=
  rd σ' main_v21 = argmin (rd σ main_v20) ∧ Same σ σ' [main_arg0, main_arg1, main_v2, main_v0]

/-- The rest of the first round and the second distance. -/
def Round1 (σ σ' : State) : Prop :=
  Round (rd σ main_arg0) (rd σ main_arg1) (rd σ main_v21) (rd σ main_v0) (loss (rd σ main_arg0) (rd σ main_arg1) 0)
      (rd σ' main_v22) (rd σ' main_v31) (rd σ' main_v43)
    ∧ rd σ' main_v61 = distOf (rd σ main_v2) (rd σ main_arg1) ∧ Same σ σ' [main_arg0, main_arg1, main_v2]

/-- The search of the second round. -/
def Search2 (σ σ' : State) : Prop :=
  rd σ' main_v62 = argmin (rd σ main_v61) ∧ Same σ σ' [main_arg0, main_arg1, main_v2, main_v31, main_v43, main_v22]

/-- The rest of the second round and the third distance. -/
def Round2 (σ σ' : State) : Prop :=
  Round (rd σ main_arg0) (rd σ main_arg1) (rd σ main_v62) (rd σ main_v31) (rd σ main_v43) (rd σ' main_v63) (rd σ' main_v72) (rd σ' main_v84)
    ∧ rd σ' main_v102 = distOf (rd σ main_v2) (rd σ main_arg1) ∧ Same σ σ' [main_arg0, main_arg1, main_v2, main_v22]

/-- The search of the third round. -/
def Search3 (σ σ' : State) : Prop :=
  rd σ' main_v103 = argmin (rd σ main_v102) ∧ Same σ σ' [main_arg0, main_arg1, main_v2, main_v72, main_v84, main_v22, main_v63]

/-- The rest of the third round and the fourth distance. -/
def Round3 (σ σ' : State) : Prop :=
  Round (rd σ main_arg0) (rd σ main_arg1) (rd σ main_v103) (rd σ main_v72) (rd σ main_v84) (rd σ' main_v104) (rd σ' main_v113) (rd σ' main_v125)
    ∧ rd σ' main_v143 = distOf (rd σ main_v2) (rd σ main_arg1) ∧ Same σ σ' [main_arg0, main_arg1, main_v22, main_v63]

/-- The search of the fourth round. -/
def Search4 (σ σ' : State) : Prop :=
  rd σ' main_v144 = argmin (rd σ main_v143) ∧ Same σ σ' [main_arg0, main_arg1, main_v113, main_v125, main_v22, main_v63, main_v104]

/-- The rest of the fourth round and the three results. -/
def Round4 (σ σ' : State) : Prop :=
  Round (rd σ main_arg0) (rd σ main_arg1) (rd σ main_v144) (rd σ main_v113) (rd σ main_v125) (rd σ' main_v145) (rd σ' main_v154) (rd σ' main_v166)
    ∧ rd σ' main_v167 = four (rd σ main_v22) (rd σ main_v63) (rd σ main_v104) (rd σ' main_v145)
    ∧ rd σ' main_v168 = Host.divf (F := Ideal) (φ := .f32) (s := S_) (rd σ' main_v166) (constant S_ .f32 0x40800000#32)
    ∧ rd σ' main_v170 = addf (F := Ideal) (φ := .f32) (s := S16x64x32x32) (rd σ main_arg0) (subf (F := Ideal) (φ := .f32) (s := S16x64x32x32) (rd σ' main_v154) (rd σ main_arg0))
    ∧ Same σ σ' [main_arg0, main_arg1]

/-- The whole: the three results of the arguments, and the arguments as they were. -/
def Ends (σ σ' : State) : Prop :=
  rd σ' main_v170 = out0 (rd σ main_arg0) (rd σ main_arg1) ∧ rd σ' main_v168 = out1 (rd σ main_arg0) (rd σ main_arg1)
    ∧ rd σ' main_v167 = out2 (rd σ main_arg0) (rd σ main_arg1) ∧ Same σ σ' [main_arg0, main_arg1]

/-- The nine stretches one after another are the whole. -/
theorem ends {σ σ1 σ2 σ3 σ4 σ5 σ6 σ7 σ8 σ9 : State} (h1 : Dist1 σ σ1) (h2 : Search1 σ1 σ2) (h3 : Round1 σ2 σ3) (h4 : Search2 σ3 σ4)
    (h5 : Round2 σ4 σ5) (h6 : Search3 σ5 σ6) (h7 : Round3 σ6 σ7) (h8 : Search4 σ7 σ8) (h9 : Round4 σ8 σ9) : Ends σ σ9 := by
  obtain ⟨a1, a2, a3, a4, a5, -⟩ := h1
  obtain ⟨b1, b2, b3, b4, b5, -⟩ := h2
  obtain ⟨⟨c1, c2, c3⟩, c4, c5, c6, c7, -⟩ := h3
  obtain ⟨d1, d2, d3, d4, d5, d6, d7, -⟩ := h4
  obtain ⟨⟨e1, e2, e3⟩, e4, e5, e6, e7, e8, -⟩ := h5
  obtain ⟨f1, f2, f3, f4, f5, f6, f7, f8, -⟩ := h6
  obtain ⟨⟨g1, g2, g3⟩, g4, g5, g6, g7, g8, -⟩ := h7
  obtain ⟨k1, k2, k3, k4, k5, k6, k7, k8, -⟩ := h8
  obtain ⟨⟨l1, l2, l3⟩, l4, l5, l6, l7, l8, -⟩ := h9
  simp only [Ends, Same, and_true]
  have z1 := b2.trans a4
  have z2 := c5.trans z1
  have z3 := d2.trans z2
  have z4 := e5.trans z3
  have z5 := f2.trans z4
  have z6 := g5.trans z5
  have z7 := k2.trans z6
  have y1 := b3.trans a5
  have y2 := c6.trans y1
  have y3 := d3.trans y2
  have y4 := e6.trans y3
  have y5 := f3.trans y4
  have y6 := g6.trans y5
  have y7 := k3.trans y6
  have x1 := b4.trans a1
  have x2 := c7.trans x1
  have x3 := d4.trans x2
  have x4 := e7.trans x3
  have x5 := f4.trans x4
  rw [a2] at b1
  rw [b1] at c1
  rw [x1, y1] at c4
  rw [c4] at d1
  rw [d1] at e1
  rw [x3, y3] at e4
  rw [e4] at f1
  rw [f1] at g1
  rw [x5, y5] at g4
  rw [g4] at k1
  rw [k1] at l1
  have i1 : rd σ3 main_v22 = index (rd σ main_arg0) (rd σ main_arg1) := c1
  have i2 : rd σ5 main_v63 = index (rd σ main_arg0) (rd σ main_arg1) := e1
  have i3 : rd σ7 main_v104 = index (rd σ main_arg0) (rd σ main_arg1) := g1
  have i4 : rd σ9 main_v145 = index (rd σ main_arg0) (rd σ main_arg1) := l1
  rw [b5, a3, y1, i1] at c2
  rw [y3, d5, c2, i2] at e2
  rw [y5, f5, e2, i3] at g2
  rw [y7, k4, g2, i4] at l2
  rw [z1, y1, c2] at c3
  rw [z3, d6, c3, e2] at e3
  rw [z5, f6, e3, g2] at g3
  rw [z7, k5, g3, l2] at l3
  rw [z7, l2] at l6
  rw [l3] at l5
  rw [i4, k8, i3, k7, g8, f8, i2, k6, g7, f7, e8, d7, i1] at l4
  exact ⟨l6, l5, l4, l7.trans z7, l8.trans y7⟩

/-- Operations on the device's own buffers, none of them new. -/
def Plain (ops : List (HloOp τ sig (Elt Ideal))) : Prop :=
  (ops.Forall fun op => op.bufs ⊆ tcRefs τ sig) ∧ ∀ op ∈ ops, op.fresh = ∅

/-- A line that reads so by stretches reads so as a whole. -/
theorem ends_of {ops : List (HloOp τ sig (Elt Ideal))} (h : ∀ d, IsSeq (main (F := Ideal) d) ops) (hp : Plain ops)
    (h1 : ∀ σ, Dist1 σ (after (ops.take 26) σ))
    (h2 : ∀ σ, Search1 σ (after ((ops.drop 26).take 5) σ))
    (h3 : ∀ σ, Round1 σ (after ((ops.drop 31).take 52) σ))
    (h4 : ∀ σ, Search2 σ (after ((ops.drop 83).take 5) σ))
    (h5 : ∀ σ, Round2 σ (after ((ops.drop 88).take 51) σ))
    (h6 : ∀ σ, Search3 σ (after ((ops.drop 139).take 5) σ))
    (h7 : ∀ σ, Round3 σ (after ((ops.drop 144).take 51) σ))
    (h8 : ∀ σ, Search4 σ (after ((ops.drop 195).take 5) σ))
    (h9 : ∀ σ, Round4 σ (after (ops.drop 200) σ)) :
    ∃ ops : List (HloOp τ sig (Elt Ideal)), (∀ d, IsSeq (main (F := Ideal) d) ops) ∧ Plain ops ∧ ∀ σ, Ends σ (after ops σ) := by
  refine ⟨ops, h, hp, fun σ => ?_⟩
  have e := ends (h1 σ) (h2 _) (h3 _) (h4 _) (h5 _) (h6 _) (h7 _) (h8 _) (h9 _)
  have c : ∀ k l σ, after (ops.drop k) σ = after (ops.drop (k + l)) (after ((ops.drop k).take l) σ) := fun k l σ => by
    rw [after_cut l (ops.drop k), List.drop_drop]
  rwa [← c 195 5, ← c 144 51, ← c 139 5, ← c 88 51, ← c 83 5, ← c 31 52, ← c 26 5, ← after_cut 26] at e

set_option maxHeartbeats 6400000 in
/-- The reference is one line of operations, and the line ends with the three results. -/
theorem main_reads : ∃ ops : List (HloOp τ sig (Elt Ideal)), (∀ d, IsSeq (main (F := Ideal) d) ops) ∧ Plain ops ∧ ∀ σ, Ends σ (after ops σ) := by
  refine ends_of (by hlo_seq)
    ⟨by simp, by intro _ h; (repeat (cases h with | head => rfl | tail _ h => ?_)); exact nomatch h⟩ ?_ ?_ ?_ ?_ ?_ ?_ ?_ ?_ ?_ <;> intro σ <;>
    simp only [List.take_succ_cons, List.take_zero, List.drop_succ_cons, List.drop_zero]
  · refine ⟨?_, ?_, ?_, ?_, ?_, trivial⟩ <;> after_reads_simp <;> rfl
  · refine ⟨?_, ?_, ?_, ?_, ?_, trivial⟩ <;> after_reads_simp
    exact uncast (r := main_v21) (r0 := main_v20) (r1 := main_call0_v0) (r2 := main_call0_cst) (r3 := main_call0_c) argminBy _ _ _ _
  · refine ⟨⟨?_, ?_, ?_⟩, ?_, ?_, ?_, ?_, trivial⟩ <;> after_reads_simp
    all_goals rfl
  · refine ⟨?_, ?_, ?_, ?_, ?_, ?_, ?_, trivial⟩ <;> after_reads_simp
    exact uncast (r := main_v62) (r0 := main_v61) (r1 := main_call1_v0) (r2 := main_call1_cst) (r3 := main_call1_c) argminBy _ _ _ _
  · refine ⟨⟨?_, ?_, ?_⟩, ?_, ?_, ?_, ?_, ?_, trivial⟩ <;> after_reads_simp
    all_goals rfl
  · refine ⟨?_, ?_, ?_, ?_, ?_, ?_, ?_, ?_, trivial⟩ <;> after_reads_simp
    exact uncast (r := main_v103) (r0 := main_v102) (r1 := main_call2_v0) (r2 := main_call2_cst) (r3 := main_call2_c) argminBy _ _ _ _
  · refine ⟨⟨?_, ?_, ?_⟩, ?_, ?_, ?_, ?_, ?_, trivial⟩ <;> after_reads_simp
    all_goals rfl
  · refine ⟨?_, ?_, ?_, ?_, ?_, ?_, ?_, ?_, trivial⟩ <;> after_reads_simp
    exact uncast (r := main_v144) (r0 := main_v143) (r1 := main_call3_v0) (r2 := main_call3_cst) (r3 := main_call3_c) argminBy _ _ _ _
  · refine ⟨⟨?_, ?_, ?_⟩, ?_, ?_, ?_, ?_, ?_, trivial⟩ <;> after_reads_simp
    all_goals rfl

/-- The reference's run: the three results of the arguments, and the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v170)
          = out0 (m ((c.tc : Thread nD τ).loc main_arg0)) (m ((c.tc : Thread nD τ).loc main_arg1))
        ∧ r.2.mem ((c.tc : Thread nD τ).loc main_v168)
          = out1 (m ((c.tc : Thread nD τ).loc main_arg0)) (m ((c.tc : Thread nD τ).loc main_arg1))
        ∧ r.2.mem ((c.tc : Thread nD τ).loc main_v167)
          = out2 (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  obtain ⟨ops, hseq, ⟨hS, hfresh⟩, hE⟩ := main_reads
  refine θ_run_mono (StableHlo.run_hlo _ _ hseq (by decide) (by decide) hS hfresh m ρ) ?_
  intro r h c
  obtain ⟨e0, e1, e2, e3, e4, -⟩ := hE (launchContents m c)
  exact ⟨(h c main_v170).trans e0, (h c main_v168).trans e1, (h c main_v167).trans e2, (h c main_arg0).trans e3, (h c main_arg1).trans e4⟩

end Cert.RefRun

end
-- ==== Proof.Spec.lean ====
/-
  The mathematics both programs are measured against, over the real numbers: the squared distance of a row to a code,
  the first code of least distance, and how that first code is found — as a fold of minima, as the lexicographic least
  of (value, index) pairs, and as the only index a one-hot sum keeps.
-/
module

public import Mathlib.Data.EReal.Operations
public import Mathlib.Data.Finset.Fold
public import Mathlib.Data.Fintype.BigOperators
public import Mathlib.Tactic.Ring
public import Mathlib.Tactic.Linarith
public import Mathlib.Tactic.NormNum
public import Idealize.ShloMosaic.PureOps.Ideal
public import Idealize.ShloMosaic.PureOps.Ideal.Laws

@[expose] public section

noncomputable section
namespace Cert.Spec

open Idealize.ShloMosaic

/-- A finite sum of reals, read as an extended real, is the sum of the terms so read. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A bounded extended real family is a family of reals. -/
theorem exists_real {ι : Type*} (x : ι → EReal) (h : ∀ i, x i ≠ ⊤ ∧ x i ≠ ⊥) : ∃ r : ι → ℝ, ∀ i, x i = (r i : EReal) :=
  ⟨fun i => (x i).toReal, fun i => (EReal.coe_toReal (h i).1 (h i).2).symm⟩

/-! ## The first index of the least value -/

/-- `k` is the first index at which `f` is least. -/
def IsFirst (f : Fin 1024 → ℝ) (k : Fin 1024) : Prop := (∀ j, f k ≤ f j) ∧ ∀ j, j < k → f k < f j

/-- Some place is the first with the least value. -/
theorem exists_first (f : Fin 1024 → ℝ) : ∃ k, IsFirst f k := by
  classical
  have hne : (Finset.univ.filter fun k => ∀ j, f k ≤ f j).Nonempty := by
    obtain ⟨k, hk⟩ := Finite.exists_min f
    exact ⟨k, by simpa using hk⟩
  refine ⟨Finset.min' _ hne, ?_, ?_⟩
  · have := Finset.min'_mem _ hne
    simpa using this
  · intro j hj
    have h0 : ∀ i, f (Finset.min' _ hne) ≤ f i := by simpa using Finset.min'_mem _ hne
    refine lt_of_le_of_ne (h0 j) fun he => ?_
    have : j ∈ Finset.univ.filter fun k => ∀ j, f k ≤ f j := by
      simp only [Finset.mem_filter, Finset.mem_univ, true_and]
      intro i; rw [← he]; exact h0 i
    exact absurd (Finset.min'_le _ _ this) (not_le.mpr hj)

/-- The first index at which `f` is least. -/
def first (f : Fin 1024 → ℝ) : Fin 1024 := (exists_first f).choose

/-- `first f` is the first place with the least value. -/
theorem first_spec (f : Fin 1024 → ℝ) : IsFirst f (first f) := (exists_first f).choose_spec

/-- There is only one such index. -/
theorem IsFirst.eq {f : Fin 1024 → ℝ} {k : Fin 1024} (h : IsFirst f k) : k = first f := by
  rcases lt_trichotomy k (first f) with hlt | he | hgt
  · exact absurd (h.1 (first f)) (not_le.mpr ((first_spec f).2 k hlt))
  · exact he
  · exact absurd ((first_spec f).1 k) (not_le.mpr (h.2 _ hgt))

/-- A family ordered as `f` is has its first least index where `f` has. -/
theorem first_congr {f g : Fin 1024 → ℝ} (h : ∀ i j, f i < f j ↔ g i < g j) : first f = first g := by
  refine IsFirst.eq ⟨fun j => ?_, fun j hj => ?_⟩
  · exact not_lt.mp fun hlt => absurd ((first_spec f).1 j) (not_le.mpr ((h _ _).mpr hlt))
  · exact (h _ _).mp ((first_spec f).2 j hj)

/-- A fold of `min` from `⊤` is an extended real below every member and equal to a member it is below of all. -/
theorem fold_min_eq {ι : Type*} [Fintype ι] (f : ι → EReal) (k : ι) (h : ∀ j, f k ≤ f j) :
    Finset.univ.fold min ⊤ f = f k := by
  refine le_antisymm ?_ ?_
  · exact (Finset.fold_min_le (f k)).mpr (Or.inr ⟨k, Finset.mem_univ k, le_rfl⟩)
  · exact (Finset.le_fold_min (f k)).mpr ⟨le_top, fun j _ => h j⟩

/-- The minimum of a real family is its value at the first least index. -/
theorem fold_min_first (f : Fin 1024 → ℝ) : Finset.univ.fold min ⊤ (fun k => (f k : EReal)) = (f (first f) : EReal) :=
  fold_min_eq _ (first f) fun j => EReal.coe_le_coe_iff.mpr ((first_spec f).1 j)

/-- The minimum over the indices of least value, any other index counted as 1024, is the first of them. -/
theorem fold_min_index (f : Fin 1024 → ℝ) :
    Finset.univ.fold min ⊤ (fun k : Fin 1024 => if (f k : EReal) = (f (first f) : EReal) then (((k.val : ℕ) : ℝ) : EReal) else ((1024 : ℝ) : EReal))
      = (((first f).val : ℝ) : EReal) := by
  have key : ∀ j : Fin 1024, (((first f).val : ℝ) : EReal)
      ≤ if (f j : EReal) = (f (first f) : EReal) then (((j.val : ℕ) : ℝ) : EReal) else ((1024 : ℝ) : EReal) := by
    intro j
    split_ifs with h
    · refine EReal.coe_le_coe_iff.mpr (Nat.cast_le.mpr ?_)
      by_contra hlt
      have := (first_spec f).2 j (Fin.lt_def.mpr (not_le.mp hlt))
      exact absurd (EReal.coe_eq_coe_iff.mp h) (ne_of_gt this)
    · refine EReal.coe_le_coe_iff.mpr ?_
      have := (first f).isLt
      exact_mod_cast this.le
  have h := fold_min_eq (fun k : Fin 1024 => if (f k : EReal) = (f (first f) : EReal) then (((k.val : ℕ) : ℝ) : EReal) else ((1024 : ℝ) : EReal))
    (first f) fun j => by simpa using key j
  rw [h, if_pos rfl]

/-- A sum weighted by one at index `k` and zero elsewhere is the term at `k`. -/
theorem sum_onehot (k : Fin 1024) (g : Fin 1024 → EReal) :
    ∑ j : Fin 1024, (if (((j.val : ℕ) : ℝ) : EReal) = ((k.val : ℝ) : EReal) then (1 : EReal) else 0) * g j = g k := by
  rw [Finset.sum_eq_single k]
  · rw [if_pos rfl, one_mul]
  · intro j _ hj
    rw [if_neg, zero_mul]
    intro h
    have := EReal.coe_eq_coe_iff.mp h
    exact hj (Fin.ext (by exact_mod_cast this))
  · exact fun h => absurd (Finset.mem_univ k) h

/-! ## The squared distance -/

/-- The squared distance of a row to code `k`, expanded. -/
def sqd (x : Fin 64 → ℝ) (E : Fin 1024 → Fin 64 → ℝ) (k : Fin 1024) : ℝ :=
  (∑ c, x c * x c) - 2 * (∑ c, x c * E k c) + ∑ c, E k c * E k c

/-- It is a sum of squares, so not negative. -/
theorem sqd_nonneg (x : Fin 64 → ℝ) (E : Fin 1024 → Fin 64 → ℝ) (k : Fin 1024) : 0 ≤ sqd x E k := by
  have h : sqd x E k = ∑ c, (x c - E k c) ^ 2 := by
    unfold sqd
    rw [Finset.mul_sum, ← Finset.sum_sub_distrib, ← Finset.sum_add_distrib]
    exact Finset.sum_congr rfl fun c _ => by ring
  rw [h]
  exact Finset.sum_nonneg fun c _ => sq_nonneg _

/-- The code nearest to a row: the first of least squared distance. -/
def near (x : Fin 64 → ℝ) (E : Fin 1024 → Fin 64 → ℝ) : Fin 1024 := first (sqd x E)

/-- Ordering the codes by the distance itself, cut off at zero, finds the same code. -/
theorem first_sqrt (x : Fin 64 → ℝ) (E : Fin 1024 → Fin 64 → ℝ) :
    first (fun k => Real.sqrt (max (sqd x E k) 0)) = near x E :=
  first_congr fun i j => by
    rw [max_eq_left (sqd_nonneg x E i), max_eq_left (sqd_nonneg x E j)]
    exact Real.sqrt_lt_sqrt_iff (sqd_nonneg x E i)

/-! ## The loss -/

/-- The four rounds' losses, averaged, from the three sums the kernel keeps. -/
theorem loss_identity {ι : Type*} [Fintype ι] (q z : ι → ℝ) :
    let D : ℝ → ℝ := fun n => (∑ i, (n * q i - z i) * (n * q i - z i)) / 1048576
    (0 + 0.25 * D 1 + D 1 + 0.25 * D 2 + D 2 + 0.25 * D 3 + D 3 + 0.25 * D 4 + D 4) / 4
      = 0.3125 * (30 * (∑ i, q i * q i) - 20 * (∑ i, q i * z i) + 4 * ∑ i, z i * z i) / 1048576 := by
  intro D
  have hD : ∀ n, D n = (n * n * (∑ i, q i * q i) - 2 * n * (∑ i, q i * z i) + ∑ i, z i * z i) / 1048576 := by
    intro n
    show (∑ i, (n * q i - z i) * (n * q i - z i)) / 1048576 = _
    rw [Finset.mul_sum, Finset.mul_sum, ← Finset.sum_sub_distrib, ← Finset.sum_add_distrib]
    congr 1
    exact Finset.sum_congr rfl fun c _ => by ring
  rw [hD, hD, hD, hD]
  ring

end Cert.Spec

end
-- ==== Proof.Consts.lean ====
/-
  The literals the two programs name, as extended reals, and the passage between a code's number and its word.
-/
module

public import Idealize.ShloMosaic.PureOps.Ideal
public import Idealize.ShloMosaic.PureOps.Ideal.Laws
public import Mathlib.Tactic.NormNum
public import Mathlib.Tactic.Linarith

@[expose] public section

namespace Cert.Consts

open Idealize.ShloMosaic

/-- The word of +∞. -/
theorem top_f32 : Ideal.ofBits .f32 0x7F800000#32 = ⊤ := by simp [Ideal.ofBits, Ideal.ieee]

/-- The word of 1024. -/
theorem f1024 : Ideal.ofBits .f32 0x44800000#32 = ((1024 : ℝ) : EReal) := by
  simp [Ideal.ofBits, Ideal.ieee, -EReal.coe_mul]; norm_num

/-- The word of 2. -/
theorem f2 : Ideal.ofBits .f32 0x40000000#32 = ((2 : ℝ) : EReal) := by
  simp [Ideal.ofBits, Ideal.ieee, -EReal.coe_mul]; norm_num

/-- The word of 4. -/
theorem f4 : Ideal.ofBits .f32 0x40800000#32 = ((4 : ℝ) : EReal) := by
  simp [Ideal.ofBits, Ideal.ieee, -EReal.coe_mul]; norm_num

/-- The word of 20. -/
theorem f20 : Ideal.ofBits .f32 0x41A00000#32 = ((20 : ℝ) : EReal) := by
  simp [Ideal.ofBits, Ideal.ieee, -EReal.coe_mul]; norm_num

/-- The word of 30. -/
theorem f30 : Ideal.ofBits .f32 0x41F00000#32 = ((30 : ℝ) : EReal) := by
  simp [Ideal.ofBits, Ideal.ieee, -EReal.coe_mul]; norm_num

/-- The word of 0.25. -/
theorem quarter : Ideal.ofBits .f32 0x3E800000#32 = ((0.25 : ℝ) : EReal) := by
  simp [Ideal.ofBits, Ideal.ieee, -EReal.coe_mul]; norm_num

/-- The word of 0.3125. -/
theorem f03125 : Ideal.ofBits .f32 0x3EA00000#32 = ((0.3125 : ℝ) : EReal) := by
  simp [Ideal.ofBits, Ideal.ieee, -EReal.coe_mul]; norm_num

/-- The word of 1048576. -/
theorem f1048576 : Ideal.ofBits .f32 0x49800000#32 = ((1048576 : ℝ) : EReal) := by
  simp [Ideal.ofBits, Ideal.ieee, -EReal.coe_mul]; norm_num

/-- A small number's word, read back as a number, is the number. -/
theorem toInt_ofNat (k : Fin 1024) : (BitVec.ofNat 32 k.val).toInt = (k.val : Int) := by
  have := k.isLt
  rw [BitVec.toInt_eq_toNat_of_lt] <;> simp [BitVec.toNat_ofNat] <;> omega

/-- The word of a small number converts to the number. -/
theorem sitofp_ofNat (k : Fin 1024) :
    (FloatOps.sitofp .f32 (BitVec.ofNat 32 k.val) : Ideal .f32) = (((k.val : ℕ) : ℝ) : EReal) := by
  show ((((BitVec.ofNat 32 k.val).toInt : ℤ) : ℝ) : EReal) = _
  rw [toInt_ofNat]; norm_cast

/-- A small number converts to its word. -/
theorem fptosi_natCast (k : Fin 1024) : Ideal.fptosi 32 (((k.val : ℕ) : ℝ) : EReal) = BitVec.ofNat 32 k.val := by
  have h := k.isLt
  have h0 : (0 : ℝ) ≤ ((k.val : ℕ) : ℝ) := Nat.cast_nonneg _
  have e : Ideal.toIntClamped (-(2 ^ (32 - 1) : Nat)) ((2 ^ (32 - 1) : Nat) - 1) (((k.val : ℕ) : ℝ) : EReal) = (k.val : Int) := by
    show max _ (min _ (if 0 ≤ ((k.val : ℕ) : ℝ) then ⌊((k.val : ℕ) : ℝ)⌋ else ⌈((k.val : ℕ) : ℝ)⌉)) = _
    rw [if_pos h0, Int.floor_natCast]
    norm_num
    omega
  rw [Ideal.fptosi, e]
  exact BitVec.ofInt_natCast ..

end Cert.Consts

end
-- ==== Proof.Quarter.lean ====
/-
  One quarter of a block: 256 rows against the whole codebook. The four quarters of the kernel's body run the same
  operations, so what they compute is stated here once, over the rows.
-/
module

public import proofs.«01_k».proof.Defs
public import proofs.«01_k».proof.Proof.Gen.KernelIdeal.Frame
public import proofs.«01_k».proof.Proof.Spec
public import proofs.«01_k».proof.Proof.Consts
public import Idealize.ShloMosaic.Lib.Pointwise

@[expose] public section

set_option maxRecDepth 16384
noncomputable section
namespace Cert.Quarter

open Idealize.ShloMosaic Cert.KernelIdeal Cert.KernelIdeal.Gen Cert.Spec

/-- The squared length of each row. -/
def lens (X : FVec Ideal S256x64 .f32) : FVec Ideal S256x1 .f32 :=
  shapeCast S256x1 (multiReduction .add [1] S256 (mulf X X) 0x00000000#32 reduces_S256x64_S256 (.inl rfl) rfl) shapeCasts_S256_S256x1

/-- The squared distance of each row to each code. -/
def dists (X : FVec Ideal S256x64 .f32) (B : FVec Ideal S1x1024 .f32) (W : FVec Ideal S1024x64 .f32) : FVec Ideal S256x1024 .f32 :=
  addf (subf (broadcastTo S256x1024 (lens X) broadcasts_S256x1_S256x1024)
      (matmul dot_S256x64_S1024x64_S256x1024_1_1_0_0_n_n none X W (constant S256x1024 .f32 0x00000000#32)))
    (broadcastTo S256x1024 B broadcasts_S1x1024_S256x1024)

/-- The number of each column. -/
def cols : FVec Ideal S256x1024 .f32 := sitofp .f32 (iota .tc S256x1024 32 [1] iota_S256x1024_d1_w32)

/-- The least entry of each row. -/
def least (D : FVec Ideal S256x1024 .f32) : FVec Ideal S256x1 .f32 :=
  shapeCast S256x1 (multiReduction .minimumf [1] S256 D 0x7F800000#32 reduces_S256x1024_S256 (.inl rfl) rfl) shapeCasts_S256_S256x1

/-- The number of the first column holding the least entry of each row. -/
def firsts (D : FVec Ideal S256x1024 .f32) : FVec Ideal S256x1 .f32 :=
  least (select (cmpf .oeq D (broadcastTo S256x1024 (least D) broadcasts_S256x1_S256x1024)) cols
    (broadcast S256x1024 (Scalar.ofBits (F := Ideal) .f32 0x44800000#32)))

/-- The code each numbered column names. -/
def codes (N : FVec Ideal S256x1 .f32) (e : FVec Ideal S1024x64 .f32) : FVec Ideal S256x64 .f32 :=
  matmul dot_S256x1024_S1024x64_S256x64_1_0_0_1_n_n none
    (select (cmpf .oeq cols (broadcastTo S256x1024 N broadcasts_S256x1_S256x1024))
      (broadcast S256x1024 (Scalar.ofBits (F := Ideal) .f32 0x3F800000#32)) (broadcast S256x1024 (Scalar.ofBits (F := Ideal) .f32 0x00000000#32)))
    e (constant S256x64 .f32 0x00000000#32)

/-- The sum of a column. -/
def total (v : FVec Ideal S256x1 .f32) : Ideal .f32 :=
  extractAt ![0, 0] (shapeCast S1x1 (multiReduction .add [0] S1 v 0x00000000#32 reduces_S256x1_S1 (.inl rfl) rfl) shapeCasts_S1_S1x1) inpos_S1x1_p0_0

/-- The sum of every product of two blocks of rows. -/
def dotAll (X Y : FVec Ideal S256x64 .f32) : Ideal .f32 :=
  total (shapeCast S256x1 (multiReduction .add [1] S256 (mulf X Y) 0x00000000#32 reduces_S256x64_S256 (.inl rfl) rfl) shapeCasts_S256_S256x1)

/-- A row's squared length. -/
theorem lens_apply (X : FVec Ideal S256x64 .f32) (r : Fin 256) (u : Fin 1) :
    lens X (ix2 r u) = ∑ c : Fin 64, X (ix2 r c) * X (ix2 r c) := by
  pointwise [lens]

/-- The column numbers, as reals. -/
theorem cols_apply (r : Fin 256) (k : Fin 1024) : cols (ix2 r k) = (((k.val : ℕ) : ℝ) : EReal) := by
  pointwise [cols]
  exact Consts.sitofp_ofNat k

/-- A row's squared distance to a code, as the kernel computes it. -/
theorem dists_apply (X : FVec Ideal S256x64 .f32) (B : FVec Ideal S1x1024 .f32) (W : FVec Ideal S1024x64 .f32) (r : Fin 256) (k : Fin 1024) :
    dists X B W (ix2 r k) = lens X (ix2 r 0) - (∑ c : Fin 64, X (ix2 r c) * W (ix2 k c)) + B (ix2 0 k) := by
  pointwise [dists]

/-- A row's least distance. -/
theorem least_apply (D : FVec Ideal S256x1024 .f32) (r : Fin 256) (u : Fin 1) :
    least D (ix2 r u) = Finset.univ.fold min (⊤ : EReal) fun k : Fin 1024 => D (ix2 r k) := by
  pointwise [least]
  rw [Consts.top_f32]

/-- A row's least column number among those at the least distance, 1024 standing for the others. -/
theorem firsts_apply (D : FVec Ideal S256x1024 .f32) (r : Fin 256) (u : Fin 1) :
    firsts D (ix2 r u) = Finset.univ.fold min (⊤ : EReal) fun k : Fin 1024 =>
      if D (ix2 r k) = least D (ix2 r 0) then (((k.val : ℕ) : ℝ) : EReal) else ((1024 : ℝ) : EReal) := by
  rw [firsts, least_apply]
  refine congrArg (fun f => Finset.univ.fold min (⊤ : EReal) f) (funext fun k => ?_)
  pointwise []
  rw [cols_apply, Consts.f1024]

/-- A row's code, as a product with the row that is one at its number and zero elsewhere. -/
theorem codes_apply (N : FVec Ideal S256x1 .f32) (e : FVec Ideal S1024x64 .f32) (r : Fin 256) (c : Fin 64) :
    codes N e (ix2 r c) = ∑ k : Fin 1024, (if (((k.val : ℕ) : ℝ) : EReal) = N (ix2 r 0) then (1 : EReal) else 0) * e (ix2 k c) := by
  pointwise [codes]
  simp only [cols_apply]

/-- The total of a column. -/
theorem total_apply (v : FVec Ideal S256x1 .f32) : total v = ∑ r : Fin 256, v (ix2 r 0) := by
  pointwise [total]

/-- The sum of all entries' products. -/
theorem dotAll_apply (X Y : FVec Ideal S256x64 .f32) : dotAll X Y = ∑ r : Fin 256, ∑ c : Fin 64, X (ix2 r c) * Y (ix2 r c) := by
  rw [dotAll, total_apply]
  pointwise []

end Cert.Quarter

end
-- ==== Proof.Block.lean ====
/-
  One block: the 1024 rows of one image against the whole codebook. Its four quarters are the same computation over
  four slices of the rows; what they leave is stated over the real rows `x` and the real codebook `E`.
-/
module

public import proofs.«01_k».proof.Proof.Quarter

@[expose] public section

set_option maxRecDepth 16384
noncomputable section
namespace Cert.Block

open Idealize.ShloMosaic Cert.KernelIdeal Cert.KernelIdeal.Gen Cert.Spec Cert.Quarter

/-! ## A quarter over real rows -/

section real
variable {X : FVec Ideal S256x64 .f32} {B : FVec Ideal S1x1024 .f32} {W e : FVec Ideal S1024x64 .f32}
  {x : Fin 256 → Fin 64 → ℝ} {E : Fin 1024 → Fin 64 → ℝ}

/-- Over real rows and codes the distances are the squared distances. -/
theorem dists_real (hX : ∀ r c, X (ix2 r c) = (x r c : EReal)) (hB : ∀ k, B (ix2 0 k) = ((∑ c, E k c * E k c : ℝ) : EReal))
    (hW : ∀ k c, W (ix2 k c) = ((E k c + E k c : ℝ) : EReal)) (r : Fin 256) (k : Fin 1024) :
    dists X B W (ix2 r k) = (sqd (x r) E k : EReal) := by
  have h2 : 2 * (∑ c, x r c * E k c) = ∑ c, x r c * (E k c + E k c) := by
    rw [Finset.mul_sum]; exact Finset.sum_congr rfl fun c _ => by ring
  rw [dists_apply, lens_apply, hB, sqd, h2, EReal.coe_add, EReal.coe_sub]
  simp only [hX, hW, coe_sum, EReal.coe_mul]

/-- The number found in each row is that of the nearest code. -/
theorem firsts_real (hX : ∀ r c, X (ix2 r c) = (x r c : EReal)) (hB : ∀ k, B (ix2 0 k) = ((∑ c, E k c * E k c : ℝ) : EReal))
    (hW : ∀ k c, W (ix2 k c) = ((E k c + E k c : ℝ) : EReal)) (r : Fin 256) (u : Fin 1) :
    firsts (dists X B W) (ix2 r u) = (((near (x r) E).val : ℝ) : EReal) := by
  rw [firsts_apply, least_apply]
  simp only [dists_real hX hB hW]
  rw [fold_min_first]
  exact fold_min_index _

/-- The code named is the nearest one. -/
theorem codes_real {N : FVec Ideal S256x1 .f32} {n : Fin 256 → Fin 1024} (hN : ∀ r, N (ix2 r 0) = (((n r).val : ℝ) : EReal))
    (he : ∀ k c, e (ix2 k c) = (E k c : EReal)) (r : Fin 256) (c : Fin 64) : codes N e (ix2 r c) = (E (n r) c : EReal) := by
  rw [codes_apply, hN, sum_onehot, he]

/-- The sum of products of real rows. -/
theorem dotAll_real {Y : FVec Ideal S256x64 .f32} {y : Fin 256 → Fin 64 → ℝ} (hX : ∀ r c, X (ix2 r c) = (x r c : EReal))
    (hY : ∀ r c, Y (ix2 r c) = (y r c : EReal)) : dotAll X Y = ((∑ r, ∑ c, x r c * y r c : ℝ) : EReal) := by
  rw [dotAll_apply, coe_sum]
  refine Finset.sum_congr rfl fun r _ => ?_
  rw [coe_sum]
  exact Finset.sum_congr rfl fun c _ => by rw [hX, hY, EReal.coe_mul]

end real

/-! ## The four quarters of the body's values -/

/-- The 256 rows from row `o` on. -/
def cut (o : Nat) (h : S1024x64.Slices ![o, 0] S256x64) (v : FVec Ideal S1024x64 .f32) : FVec Ideal S256x64 .f32 :=
  extractStridedSlice S256x64 ![o, 0] v h

/-- The column of numbers of the nearest codes of the 256 rows from `o` on. -/
def nums (o : Nat) (h : S1024x64.Slices ![o, 0] S256x64) (v0 : Vec Ideal S1x32x32x64 .f32) (v3 : Vec Ideal S1024x64 .f32)
    (v4 : Vec Ideal S64x1024 .f32) : FVec Ideal S256x1 .f32 :=
  firsts (dists (cut o h (k0_pay9 v0)) (k0_pay10 v4) (k0_pay11 v3))

/-- The nearest codes of the 256 rows from `o` on. -/
def quant (o : Nat) (h : S1024x64.Slices ![o, 0] S256x64) (v0 : Vec Ideal S1x32x32x64 .f32) (v3 : Vec Ideal S1024x64 .f32)
    (v4 : Vec Ideal S64x1024 .f32) : FVec Ideal S256x64 .f32 := codes (nums o h v0 v3 v4) v3

section pays
variable (v0 : Vec Ideal S1x32x32x64 .f32) (v3 : Vec Ideal S1024x64 .f32) (v4 : Vec Ideal S64x1024 .f32)

/-- The first quarter lies in the block. -/
abbrev h0 := slices_S1024x64_o0_0_S256x64
/-- The second quarter lies in the block. -/
abbrev h1 := slices_S1024x64_o256_0_S256x64
/-- The third quarter lies in the block. -/
abbrev h2 := slices_S1024x64_o512_0_S256x64
/-- The fourth quarter lies in the block. -/
abbrev h3 := slices_S1024x64_o768_0_S256x64

/-- The words stored for the first quarter are its numbers as words. -/
theorem pay16_eq : k0_pay16 v0 v3 v4 = fptosi 32 (nums 0 h0 v0 v3 v4) := rfl
/-- The words stored for the second quarter are its numbers as words. -/
theorem pay26_eq : k0_pay26 (k0_pay9 v0) (k0_pay10 v4) (k0_pay11 v3) = fptosi 32 (nums 256 h1 v0 v3 v4) := rfl
/-- The words stored for the third quarter are its numbers as words. -/
theorem pay36_eq : k0_pay36 (k0_pay9 v0) (k0_pay10 v4) (k0_pay11 v3) = fptosi 32 (nums 512 h2 v0 v3 v4) := rfl
/-- The words stored for the fourth quarter are its numbers as words. -/
theorem pay46_eq : k0_pay46 (k0_pay9 v0) (k0_pay10 v4) (k0_pay11 v3) = fptosi 32 (nums 768 h3 v0 v3 v4) := rfl

/-- The codes kept of the first quarter are its nearest codes. -/
theorem pay17_eq : k0_pay17 v0 v3 v4 = quant 0 h0 v0 v3 v4 := rfl
/-- The codes kept of the second quarter are its nearest codes. -/
theorem pay27_eq : k0_pay27 (k0_pay9 v0) v3 (k0_pay10 v4) (k0_pay11 v3) = quant 256 h1 v0 v3 v4 := rfl
/-- The codes kept of the third quarter are its nearest codes. -/
theorem pay37_eq : k0_pay37 (k0_pay9 v0) v3 (k0_pay10 v4) (k0_pay11 v3) = quant 512 h2 v0 v3 v4 := rfl
/-- The codes kept of the fourth quarter are its nearest codes. -/
theorem pay47_eq : k0_pay47 (k0_pay9 v0) v3 (k0_pay10 v4) (k0_pay11 v3) = quant 768 h3 v0 v3 v4 := rfl

end pays

/-- A quarter's row is the block's row at its offset. -/
theorem cut_apply (o : Nat) (h : S1024x64.Slices ![o, 0] S256x64) (v : FVec Ideal S1024x64 .f32) (r : Fin 256) (c : Fin 64)
    (ho : o + r.val < 1024) : cut o h v (ix2 r c) = v (ix2 ⟨o + r.val, ho⟩ c) := by
  pointwise [cut]

/-- The rows of a block, in reading order of its positions. -/
theorem pay9_apply (v0 : Vec Ideal S1x32x32x64 .f32) (r : Fin 1024) (c : Fin 64) :
    k0_pay9 v0 (ix2 r c) = v0 (ix4 0 ⟨r.val / 32, by omega⟩ ⟨r.val % 32, by omega⟩ c) := by
  pointwise [k0_pay9]

/-- The row of the codes' squared lengths. -/
theorem pay10_apply (v4 : Vec Ideal S64x1024 .f32) (k : Fin 1024) (u : Fin 1) :
    k0_pay10 v4 (ix2 u k) = ∑ c : Fin 64, v4 (ix2 c k) * v4 (ix2 c k) := by
  pointwise [k0_pay10]

/-- The doubled codebook. -/
theorem pay11_apply (v3 : Vec Ideal S1024x64 .f32) (k : Fin 1024) (c : Fin 64) :
    k0_pay11 v3 (ix2 k c) = v3 (ix2 k c) + v3 (ix2 k c) := by
  pointwise [k0_pay11]

/-- Four runs of 256 terms are the whole sum. -/
theorem four_sum (f : Fin 1024 → ℝ) :
    (∑ r : Fin 256, f ⟨0 + r.val, by omega⟩) + (∑ r : Fin 256, f ⟨256 + r.val, by omega⟩) + (∑ r : Fin 256, f ⟨512 + r.val, by omega⟩)
      + (∑ r : Fin 256, f ⟨768 + r.val, by omega⟩) = ∑ r, f r := by
  rw [Fin.sum_univ_tiles 4 256 rfl f, Fin.sum_univ_four]
  rfl

/-- The four quarters' codes, stacked and multiplied by four. -/
theorem pay1_apply {a b c d : FVec Ideal S256x64 .f32} (g : Fin 1024 → Fin 64 → ℝ)
    (ha : ∀ r k, a (ix2 r k) = (g ⟨0 + r.val, by omega⟩ k : EReal)) (hb : ∀ r k, b (ix2 r k) = (g ⟨256 + r.val, by omega⟩ k : EReal))
    (hc : ∀ r k, c (ix2 r k) = (g ⟨512 + r.val, by omega⟩ k : EReal)) (hd : ∀ r k, d (ix2 r k) = (g ⟨768 + r.val, by omega⟩ k : EReal))
    (u : Fin 1) (i j : Fin 32) (k : Fin 64) : k0_pay1 a b c d (ix4 u i j k) = ((4 * g ⟨i.val * 32 + j.val, by omega⟩ k : ℝ) : EReal) := by
  pointwise [k0_pay1]
  rw [Consts.f4, EReal.coe_mul]
  congr 1
  have e : ∀ (n : Nat) (hn : n < 1024), n = i.val * 32 + j.val → (g ⟨n, hn⟩ k : EReal) = (g ⟨i.val * 32 + j.val, by omega⟩ k : EReal) := by
    intro n hn h; subst h; rfl
  split
  · rw [ha]; exact e _ _ (by simp)
  · split
    · rw [hb]; exact e _ _ (by simp; omega)
    · split
      · rw [hc]; exact e _ _ (by simp; omega)
      · rw [hd]; exact e _ _ (by simp; omega)

/-! ## What a block leaves -/

/-- The three blocks the body reads hold the real rows `x` and the real codebook `E`, as it stands and transposed. -/
structure Reads (v0 : Vec Ideal S1x32x32x64 .f32) (v3 : Vec Ideal S1024x64 .f32) (v4 : Vec Ideal S64x1024 .f32)
    (x : Fin 1024 → Fin 64 → ℝ) (E : Fin 1024 → Fin 64 → ℝ) : Prop where
  rows : ∀ r c, v0 (ix4 0 ⟨r.val / 32, by omega⟩ ⟨r.val % 32, by omega⟩ c) = (x r c : EReal)
  book : ∀ k c, v3 (ix2 k c) = (E k c : EReal)
  bookT : ∀ k c, v4 (ix2 c k) = (E k c : EReal)

section leaves
variable {v0 : Vec Ideal S1x32x32x64 .f32} {v3 : Vec Ideal S1024x64 .f32} {v4 : Vec Ideal S64x1024 .f32}
  {x : Fin 1024 → Fin 64 → ℝ} {E : Fin 1024 → Fin 64 → ℝ} (H : Reads v0 v3 v4 x E)
include H

/-- A quarter's rows are real. -/
theorem cut_real (o : Nat) (h : S1024x64.Slices ![o, 0] S256x64) (ho : o ≤ 768) (r : Fin 256) (c : Fin 64) :
    cut o h (k0_pay9 v0) (ix2 r c) = (x ⟨o + r.val, by omega⟩ c : EReal) := by
  rw [cut_apply o h _ r c (by omega), pay9_apply]
  exact H.rows _ _

/-- A quarter's numbers are those of its rows' nearest codes. -/
theorem nums_real (o : Nat) (h : S1024x64.Slices ![o, 0] S256x64) (ho : o ≤ 768) (r : Fin 256) (u : Fin 1) :
    nums o h v0 v3 v4 (ix2 r u) = (((near (x ⟨o + r.val, by omega⟩) E).val : ℝ) : EReal) := by
  refine firsts_real (x := fun r => x ⟨o + r.val, by omega⟩) (E := E) (cut_real H o h ho) (fun k => ?_) (fun k c => ?_) r u
  · rw [pay10_apply, coe_sum]
    exact Finset.sum_congr rfl fun c _ => by rw [H.bookT, EReal.coe_mul]
  · rw [pay11_apply, H.book, EReal.coe_add]

/-- A quarter's codes are its rows' nearest codes. -/
theorem quant_real (o : Nat) (h : S1024x64.Slices ![o, 0] S256x64) (ho : o ≤ 768) (r : Fin 256) (c : Fin 64) :
    quant o h v0 v3 v4 (ix2 r c) = (E (near (x ⟨o + r.val, by omega⟩) E) c : EReal) :=
  codes_real (n := fun r => near (x ⟨o + r.val, by omega⟩) E) (fun r => nums_real H o h ho r 0) H.book r c

/-- A quarter's numbers as words. -/
theorem words_real (o : Nat) (h : S1024x64.Slices ![o, 0] S256x64) (ho : o ≤ 768) (r : Fin 256) (u : Fin 1) :
    fptosi 32 (nums o h v0 v3 v4) (ix2 r u) = BitVec.ofNat 32 (near (x ⟨o + r.val, by omega⟩) E).val := by
  show Ideal.fptosi 32 (nums o h v0 v3 v4 (ix2 r u)) = _
  rw [nums_real H o h ho, Consts.fptosi_natCast]

/-- The block of the first result: four times the nearest code of each position. -/
theorem zh_real (u : Fin 1) (i j : Fin 32) (k : Fin 64) :
    k0_pay1 (quant 0 h0 v0 v3 v4) (quant 256 h1 v0 v3 v4) (quant 512 h2 v0 v3 v4) (quant 768 h3 v0 v3 v4) (ix4 u i j k)
      = ((4 * E (near (x ⟨i.val * 32 + j.val, by omega⟩) E) k : ℝ) : EReal) :=
  pay1_apply (fun r => E (near (x r) E)) (quant_real H 0 h0 (by omega)) (quant_real H 256 h1 (by omega)) (quant_real H 512 h2 (by omega))
    (quant_real H 768 h3 (by omega)) u i j k

/-- The block's sum of the codes' squares. -/
def sumQQ (x E : Fin 1024 → Fin 64 → ℝ) : ℝ := ∑ r, ∑ c, E (near (x r) E) c * E (near (x r) E) c
/-- The block's sum of the products of codes and rows. -/
def sumQX (x E : Fin 1024 → Fin 64 → ℝ) : ℝ := ∑ r, ∑ c, E (near (x r) E) c * x r c
/-- The block's sum of the rows' squares. -/
def sumXX (x : Fin 1024 → Fin 64 → ℝ) : ℝ := ∑ r, ∑ c, x r c * x r c

/-- A quarter's sum of the codes' squares. -/
theorem quarter_qq (o : Nat) (h : S1024x64.Slices ![o, 0] S256x64) (ho : o ≤ 768) :
    dotAll (quant o h v0 v3 v4) (quant o h v0 v3 v4)
      = ((∑ r : Fin 256, ∑ c, E (near (x ⟨o + r.val, by omega⟩) E) c * E (near (x ⟨o + r.val, by omega⟩) E) c : ℝ) : EReal) :=
  dotAll_real (x := fun r => E (near (x ⟨o + r.val, by omega⟩) E)) (quant_real H o h ho) (quant_real H o h ho)

/-- A quarter's sum of the products of codes and rows. -/
theorem quarter_qx (o : Nat) (h : S1024x64.Slices ![o, 0] S256x64) (ho : o ≤ 768) :
    dotAll (quant o h v0 v3 v4) (cut o h (k0_pay9 v0))
      = ((∑ r : Fin 256, ∑ c, E (near (x ⟨o + r.val, by omega⟩) E) c * x ⟨o + r.val, by omega⟩ c : ℝ) : EReal) :=
  dotAll_real (x := fun r => E (near (x ⟨o + r.val, by omega⟩) E)) (quant_real H o h ho) (cut_real H o h ho)

/-- A quarter's sum of the rows' squares. -/
theorem quarter_xx (o : Nat) (h : S1024x64.Slices ![o, 0] S256x64) (ho : o ≤ 768) :
    dotAll (cut o h (k0_pay9 v0)) (cut o h (k0_pay9 v0))
      = ((∑ r : Fin 256, ∑ c, x ⟨o + r.val, by omega⟩ c * x ⟨o + r.val, by omega⟩ c : ℝ) : EReal) :=
  dotAll_real (x := fun r => x ⟨o + r.val, by omega⟩) (cut_real H o h ho) (cut_real H o h ho)

omit H in
/-- The first sum adds the four quarters' values. -/
theorem pay2_eq (a b c d : Ideal .f32) : k0_pay2 a b c d = (a + b + c + d : EReal) := rfl

omit H in
/-- The second sum adds the quarters' values, the last one computed on the spot. -/
theorem pay3_eq (a b c : Ideal .f32) (X Y : FVec Ideal S256x64 .f32) : k0_pay3 a b c X Y = (a + b + c + dotAll Y X : EReal) := rfl

omit H in
/-- The third sum adds the quarters' values, the last one totalled on the spot. -/
theorem pay4_eq (a b c : Ideal .f32) (v : FVec Ideal S256x1 .f32) : k0_pay4 a b c v = (a + b + c + total v : EReal) := rfl

omit H in
/-- The total of the squared lengths is the sum of all squares. -/
theorem total_lens (X : FVec Ideal S256x64 .f32) : total (lens X) = dotAll X X := rfl

/-- The sum of the four quarters' square sums of codes. -/
theorem qq_real : k0_pay2 (F := Ideal) (dotAll (quant 0 h0 v0 v3 v4) (quant 0 h0 v0 v3 v4)) (dotAll (quant 256 h1 v0 v3 v4) (quant 256 h1 v0 v3 v4))
      (dotAll (quant 512 h2 v0 v3 v4) (quant 512 h2 v0 v3 v4)) (dotAll (quant 768 h3 v0 v3 v4) (quant 768 h3 v0 v3 v4))
    = (sumQQ x E : EReal) := by
  rw [pay2_eq, quarter_qq H 0 h0 (by omega), quarter_qq H 256 h1 (by omega), quarter_qq H 512 h2 (by omega), quarter_qq H 768 h3 (by omega)]
  rw [← EReal.coe_add, ← EReal.coe_add, ← EReal.coe_add, sumQQ, ← four_sum]

/-- The sum of the four quarters' products of codes and rows. -/
theorem qx_real : k0_pay3 (F := Ideal) (dotAll (quant 0 h0 v0 v3 v4) (cut 0 h0 (k0_pay9 v0))) (dotAll (quant 256 h1 v0 v3 v4) (cut 256 h1 (k0_pay9 v0)))
      (dotAll (quant 512 h2 v0 v3 v4) (cut 512 h2 (k0_pay9 v0))) (cut 768 h3 (k0_pay9 v0)) (quant 768 h3 v0 v3 v4)
    = (sumQX x E : EReal) := by
  rw [pay3_eq, quarter_qx H 0 h0 (by omega), quarter_qx H 256 h1 (by omega), quarter_qx H 512 h2 (by omega), quarter_qx H 768 h3 (by omega)]
  rw [← EReal.coe_add, ← EReal.coe_add, ← EReal.coe_add, sumQX, ← four_sum]

/-- The sum of the four quarters' square sums of rows. -/
theorem xx_real : k0_pay4 (F := Ideal) (total (lens (cut 0 h0 (k0_pay9 v0)))) (total (lens (cut 256 h1 (k0_pay9 v0))))
      (total (lens (cut 512 h2 (k0_pay9 v0)))) (lens (cut 768 h3 (k0_pay9 v0)))
    = (sumXX x : EReal) := by
  rw [pay4_eq, total_lens, total_lens, total_lens, total_lens]
  rw [quarter_xx H 0 h0 (by omega), quarter_xx H 256 h1 (by omega), quarter_xx H 512 h2 (by omega), quarter_xx H 768 h3 (by omega)]
  rw [← EReal.coe_add, ← EReal.coe_add, ← EReal.coe_add, sumXX, ← four_sum]

end leaves

end Cert.Block

end
-- ==== Proof.Sums.lean ====
/-
  The kernel writes the sums of a block out as many small values. Here each of them is one of the sums of `Block`,
  and the whole of each is a sum over the block's rows.
-/
module

public import proofs.«01_k».proof.Proof.Block

@[expose] public section

set_option maxRecDepth 16384

noncomputable section

namespace Cert.Block

open Idealize.ShloMosaic Cert.KernelIdeal Cert.KernelIdeal.Gen Cert.Spec Cert.Quarter

/-! ## Small values -/

section small
variable (a b : FVec Ideal S256x64 .f32) (v : FVec Ideal S256x1 .f32) (w : FVec Ideal S1024x64 .f32)
  (v0 : Vec Ideal S1x32x32x64 .f32) (v3 : Vec Ideal S1024x64 .f32) (v4 : Vec Ideal S64x1024 .f32)
  (n : FVec Ideal S1x1024 .f32) (d : FVec Ideal S1024x64 .f32)

/-- The first quarter's rows are a cut of the block's rows. -/
theorem pay12_eq : k0_pay12 v0 = cut 0 h0 (k0_pay9 v0) := rfl
/-- The second quarter's rows are a cut of the block's rows. -/
theorem pay22_eq : k0_pay22 w = cut 256 h1 w := rfl
/-- The third quarter's rows are a cut of the block's rows. -/
theorem pay32_eq : k0_pay32 w = cut 512 h2 w := rfl
/-- The fourth quarter's rows are a cut of the block's rows. -/
theorem pay42_eq : k0_pay42 w = cut 768 h3 w := rfl

/-- The first quarter's column of squared lengths. -/
theorem pay13_eq : k0_pay13 v0 = lens (k0_pay12 v0) := rfl
/-- The second quarter's column of squared lengths. -/
theorem pay23_eq : k0_pay23 w = lens (k0_pay22 w) := rfl
/-- The third quarter's column of squared lengths. -/
theorem pay33_eq : k0_pay33 w = lens (k0_pay32 w) := rfl
/-- The fourth quarter's column of squared lengths. -/
theorem pay43_eq : k0_pay43 w = lens (k0_pay42 w) := rfl

/-- The first quarter's sum of squared lengths is the total of its column. -/
theorem pay21_eq : k0_pay21 v = total v := rfl
/-- The second quarter's sum of squared lengths is the total of its column. -/
theorem pay31_eq : k0_pay31 v = total v := rfl
/-- The third quarter's sum of squared lengths is the total of its column. -/
theorem pay41_eq : k0_pay41 v = total v := rfl

/-- The first quarter's sum of products of codes and rows. -/
theorem pay20_eq : k0_pay20 a b = dotAll b a := rfl
/-- The second quarter's sum of products of codes and rows. -/
theorem pay30_eq : k0_pay30 a b = dotAll b a := rfl
/-- The third quarter's sum of products of codes and rows. -/
theorem pay40_eq : k0_pay40 a b = dotAll b a := rfl

/-- The first quarter's sum of squared codes, from their products. -/
theorem pay19_eq : k0_pay19 (mulf a b) = dotAll a b := rfl
/-- The first quarter's codes squared. -/
theorem pay18_eq : k0_pay18 v0 v3 v4 = mulf (k0_pay17 v0 v3 v4) (k0_pay17 v0 v3 v4) := rfl
/-- The second quarter's codes' squared lengths. -/
theorem pay28_eq : k0_pay28 w v3 n d = lens (k0_pay27 w v3 n d) := rfl
/-- The second quarter's sum of squared codes is the total of their lengths. -/
theorem pay29_eq : k0_pay29 v = total v := rfl
/-- The third quarter's sum of squared codes. -/
theorem pay39_eq : k0_pay39 (k0_pay38 w v3 n d) = dotAll (k0_pay37 w v3 n d) (k0_pay37 w v3 n d) := rfl
/-- The fourth quarter's sum of squared codes. -/
theorem pay48_eq : k0_pay48 w v3 n d = dotAll (k0_pay47 w v3 n d) (k0_pay47 w v3 n d) := rfl

/-- The first carried sum, the block's added. -/
theorem pay5_eq (a b c d p : Ideal .f32) : k0_pay5 a b c d p = (p + k0_pay2 a b c d : EReal) := rfl
/-- The second carried sum, the block's added. -/
theorem pay6_eq (a b c : Ideal .f32) (X Y : FVec Ideal S256x64 .f32) (p : Ideal .f32) :
    k0_pay6 a b c X Y p = (p + k0_pay3 a b c X Y : EReal) := rfl
/-- The third carried sum, the block's added. -/
theorem pay7_eq (a b c : Ideal .f32) (v : FVec Ideal S256x1 .f32) (p : Ideal .f32) :
    k0_pay7 a b c v p = (p + k0_pay4 a b c v : EReal) := rfl

end small

/-! ## The three sums of a block -/

section block
variable {v0 : Vec Ideal S1x32x32x64 .f32} {v3 : Vec Ideal S1024x64 .f32} {v4 : Vec Ideal S64x1024 .f32}
  {x : Fin 1024 → Fin 64 → ℝ} {E : Fin 1024 → Fin 64 → ℝ} (H : Reads v0 v3 v4 x E)
include H

/-- The kernel's first sum over a block: the squares of the codes. -/
theorem first_sum : k0_pay2 (k0_pay19 (k0_pay18 v0 v3 v4)) (k0_pay29 (k0_pay28 (k0_pay9 v0) v3 (k0_pay10 v4) (k0_pay11 v3)))
      (k0_pay39 (k0_pay38 (k0_pay9 v0) v3 (k0_pay10 v4) (k0_pay11 v3))) (k0_pay48 (k0_pay9 v0) v3 (k0_pay10 v4) (k0_pay11 v3))
    = (sumQQ x E : EReal) := by
  rw [pay18_eq, pay19_eq, pay28_eq, pay29_eq, total_lens, pay39_eq, pay48_eq, pay17_eq, pay27_eq, pay37_eq, pay47_eq]
  exact qq_real H

/-- The kernel's second sum over a block: the products of codes and rows. -/
theorem second_sum : k0_pay3 (k0_pay20 (k0_pay12 v0) (k0_pay17 v0 v3 v4))
      (k0_pay30 (k0_pay22 (k0_pay9 v0)) (k0_pay27 (k0_pay9 v0) v3 (k0_pay10 v4) (k0_pay11 v3)))
      (k0_pay40 (k0_pay32 (k0_pay9 v0)) (k0_pay37 (k0_pay9 v0) v3 (k0_pay10 v4) (k0_pay11 v3)))
      (k0_pay42 (k0_pay9 v0)) (k0_pay47 (k0_pay9 v0) v3 (k0_pay10 v4) (k0_pay11 v3))
    = (sumQX x E : EReal) := by
  rw [pay20_eq, pay30_eq, pay40_eq, pay12_eq, pay22_eq, pay32_eq, pay42_eq, pay17_eq, pay27_eq, pay37_eq, pay47_eq]
  exact qx_real H

/-- The kernel's third sum over a block: the squares of the rows. -/
theorem third_sum : k0_pay4 (k0_pay21 (k0_pay13 v0)) (k0_pay31 (k0_pay23 (k0_pay9 v0))) (k0_pay41 (k0_pay33 (k0_pay9 v0)))
      (k0_pay43 (k0_pay9 v0)) = (sumXX x : EReal) := by
  rw [pay21_eq, pay31_eq, pay41_eq, pay13_eq, pay23_eq, pay33_eq, pay43_eq, pay12_eq, pay22_eq, pay32_eq, pay42_eq]
  exact xx_real H

/-- The block of quantized latents. -/
theorem codes_block (u : Fin 1) (i j : Fin 32) (k : Fin 64) :
    k0_pay1 (k0_pay17 v0 v3 v4) (k0_pay27 (k0_pay9 v0) v3 (k0_pay10 v4) (k0_pay11 v3)) (k0_pay37 (k0_pay9 v0) v3 (k0_pay10 v4) (k0_pay11 v3))
      (k0_pay47 (k0_pay9 v0) v3 (k0_pay10 v4) (k0_pay11 v3)) (ix4 u i j k)
    = ((4 * E (near (x ⟨i.val * 32 + j.val, by omega⟩) E) k : ℝ) : EReal) := by
  rw [pay17_eq, pay27_eq, pay37_eq, pay47_eq]
  exact zh_real H u i j k

/-- The number a quarter leaves for the row a place of it belongs to. -/
theorem word_at (o : Nat) (h : S1024x64.Slices ![o, 0] S256x64) (ho : o ≤ 768) (y : S256x1.Idx) (r : Fin 1024)
    (hr : r.val = o + (y 0).val) :
    fptosi 32 (nums o h v0 v3 v4) y = BitVec.ofNat 32 (near (x r) E).val := by
  obtain ⟨a, ha⟩ : ∃ a : Fin 256, a = y 0 := ⟨_, rfl⟩
  obtain ⟨b, hb⟩ : ∃ b : Fin 1, b = y 1 := ⟨_, rfl⟩
  have hy : y = ix2 a b := by
    funext k
    refine Fin.cases ?_ (fun k => ?_) k
    · exact ha.symm
    · rw [Subsingleton.elim k 0]; exact hb.symm
  have hr' : r = ⟨o + a.val, by have := a.isLt; omega⟩ := Fin.ext (hr.trans (congrArg (fun q : Fin 256 => o + q.val) ha.symm))
  rw [hy, hr']
  exact words_real H o h ho a b

end block

/-- The loss out of the three sums. -/
theorem pay8_real (a b c : ℝ) : k0_pay8 (F := Ideal) (a : EReal) (b : EReal) (c : EReal)
    = ((0.3125 * (30 * a - 20 * b + 4 * c) / 1048576 : ℝ) : EReal) := by
  simp only [k0_pay8, Scalar.addf, Scalar.mulf, Scalar.subf, Scalar.divf]
  show Ideal.div (Ideal.ofBits .f32 _ * (Ideal.ofBits .f32 _ * (a : EReal) - Ideal.ofBits .f32 _ * (b : EReal)
    + Ideal.ofBits .f32 _ * (c : EReal))) (Ideal.ofBits .f32 _) = _
  rw [Consts.f03125, Consts.f30, Consts.f20, Consts.f4, Consts.f1048576, ← EReal.coe_mul, ← EReal.coe_mul, ← EReal.coe_mul,
    ← EReal.coe_sub, ← EReal.coe_add, ← EReal.coe_mul, Ideal.div_coe (by norm_num), ← EReal.coe_mul]
  congr 1
  ring

end Cert.Block

end
-- ==== Proof.Search.lean ====
/-
  The host's search for the least entry of a row, as the first index of the least one; and the host's look-up of rows by index.
-/
module

public import proofs.«01_k».proof.Proof.RefTerm
public import proofs.«01_k».proof.Proof.Consts
public import proofs.«01_k».proof.Proof.Spec
public import Idealize.ShloMosaic.Lib.Pointwise

@[expose] public section

set_option maxRecDepth 16384
noncomputable section
namespace Cert.Search

open Idealize.ShloMosaic Idealize.SL.Sem Cert.ReferenceIdeal Cert.ReferenceIdeal.Facts₀ Cert.RefTerm Cert.Spec

/-! ## The fold of the search's body over a list of pairs -/

/-- The order the search keeps: the lesser value, of equal values the lesser index. -/
def Before (a b : EReal × BitVec 32) : Prop := a.1 < b.1 ∨ (a.1 = b.1 ∧ a.2.toInt < b.2.toInt)

/-- The order of the search is transitive. -/
theorem Before.trans {a b c : EReal × BitVec 32} (h : Before a b) (h' : Before b c) : Before a c := by
  rcases h with h | ⟨h, i⟩ <;> rcases h' with h' | ⟨h', i'⟩
  · exact Or.inl (h.trans h')
  · exact Or.inl (h'.symm ▸ h)
  · exact Or.inl (h ▸ h')
  · exact Or.inr ⟨h.trans h', i.trans i'⟩

/-- Nothing comes before itself in the search. -/
theorem Before.irrefl (a : EReal × BitVec 32) : ¬ Before a a := by
  rintro (h | ⟨-, h⟩)
  · exact lt_irrefl _ h
  · exact lt_irrefl _ h

/-- What is not before `b` lets whatever `a` is before be after `b`. -/
theorem Before.of_not {a b c : EReal × BitVec 32} (h : ¬ Before a b) (h' : Before a c) : Before b c := by
  unfold Before at *
  push Not at h
  obtain ⟨h1, h2⟩ := h
  rcases h' with h' | ⟨h', i'⟩
  · exact Or.inl (lt_of_le_of_lt h1 h')
  · rcases lt_or_eq_of_le h1 with h3 | h3
    · exact Or.inl (h' ▸ h3)
    · exact Or.inr ⟨h3.trans h', lt_of_le_of_lt (h2 h3.symm) i'⟩

/-- The search's body is the one of its two pairs that is before the other. -/
theorem reducer_eq (a b : EReal × BitVec 32) :
    (Before a b → reducer_argmin_f32_i32 (F := Ideal) a b = a) ∧ (¬ Before a b → reducer_argmin_f32_i32 (F := Ideal) a b = b) := by
  obtain ⟨a, i⟩ := a
  obtain ⟨b, j⟩ := b
  unfold Before reducer_argmin_f32_i32
  simp only [Ideal.cmpf_def, Ideal.cmp]
  by_cases h1 : a < b
  · simp [h1, h1.ne, Scalar.select, IntOp.ori, IntOp.andi]
  · by_cases h2 : a = b
    · by_cases h3 : i.toInt < j.toInt
      · simp [h2, h3, Scalar.select, IntOp.ori, IntOp.andi, IntOp.cmpi, BitVec.slt]
      · simp [h2, h3, Scalar.select, IntOp.ori, IntOp.andi, IntOp.cmpi, BitVec.slt]
    · simp [h1, h2, Scalar.select, IntOp.ori, IntOp.andi]

/-- Folding the body over a list ends with one of the pairs, and none is before it. -/
theorem foldl_least (l : List (EReal × BitVec 32)) (a : EReal × BitVec 32) :
    (l.foldl (reducer_argmin_f32_i32 (F := Ideal)) a = a ∨ l.foldl (reducer_argmin_f32_i32 (F := Ideal)) a ∈ l)
      ∧ ¬ Before a (l.foldl (reducer_argmin_f32_i32 (F := Ideal)) a)
      ∧ ∀ p ∈ l, ¬ Before p (l.foldl (reducer_argmin_f32_i32 (F := Ideal)) a) := by
  induction l generalizing a with
  | nil => exact ⟨Or.inl rfl, Before.irrefl a, fun p h => nomatch h⟩
  | cons p l ih =>
    obtain ⟨h1, h2, h3⟩ := ih (reducer_argmin_f32_i32 (F := Ideal) a p)
    rw [List.foldl_cons]
    obtain ⟨e1, e2⟩ := reducer_eq a p
    by_cases hb : Before a p
    · rw [e1 hb] at h1 h2 h3 ⊢
      refine ⟨h1.imp_right (List.mem_cons_of_mem _), h2, fun q hq => ?_⟩
      rcases List.mem_cons.mp hq with rfl | hq
      · exact fun h => h2 (hb.trans h)
      · exact h3 q hq
    · rw [e2 hb] at h1 h2 h3 ⊢
      refine ⟨Or.inr (List.mem_cons.mpr h1), fun h => h2 (Before.of_not hb h), fun q hq => ?_⟩
      rcases List.mem_cons.mp hq with rfl | hq
      · exact h2
      · exact h3 q hq

/-! ## The search of a row -/

/-- The pairs the search of one row folds over: the row's entries with what stands beside them. -/
theorem mem_fiber {n0 n1 : Nat} {t : Shape} {α β : Type} (h : (⟨2, ![n0, n1]⟩ : Shape).ReducesTo [1] t) (x : (⟨2, ![n0, n1]⟩ : Shape).Idx → α)
    (y : (⟨2, ![n0, n1]⟩ : Shape).Idx → β) (j : t.Idx) (p : α × β) :
    p ∈ Host.argReduceFiber x y h j ↔
      ∃ k : Fin n1, (x (ix2 ⟨(j ⟨0, h.lt_r2_a1_0⟩).val, Shape.coordLt (j ⟨0, h.lt_r2_a1_0⟩) h.size_r2_a1_0⟩ k),
        y (ix2 ⟨(j ⟨0, h.lt_r2_a1_0⟩).val, Shape.coordLt (j ⟨0, h.lt_r2_a1_0⟩) h.size_r2_a1_0⟩ k)) = p := by
  rw [Host.argReduceFiber, List.mem_map]
  constructor
  · rintro ⟨n, hn, rfl⟩
    obtain ⟨k, hk⟩ := (h.fiber_r2_a1 j _).mp (of_decide_eq_true (List.mem_filter.mp hn).2)
    exact ⟨k, by rw [← hk]⟩
  · rintro ⟨k, rfl⟩
    refine ⟨Shape.rowMajor _ (ix2 _ k), ?_, by rw [Equiv.symm_apply_apply]⟩
    rw [List.mem_filter]
    refine ⟨List.mem_finRange _, decide_eq_true ?_⟩
    rw [Equiv.symm_apply_apply]
    exact (h.fiber_r2_a1 j _).mpr ⟨k, rfl⟩

/-- Folding over the pairs of real numbers and their positions, from a pair of plus infinity, finds the first index of the least. -/
theorem foldl_first (l : List (EReal × BitVec 32)) (f : Fin 1024 → ℝ) (v : BitVec 32)
    (hl : ∀ p, p ∈ l ↔ ∃ k : Fin 1024, (((f k : ℝ) : EReal), BitVec.ofNat 32 k.val) = p) :
    (l.foldl (reducer_argmin_f32_i32 (F := Ideal)) (⊤, v)).2 = BitVec.ofNat 32 (first f).val := by
  obtain ⟨h1, -, h3⟩ := foldl_least l (⊤, v)
  generalize l.foldl (reducer_argmin_f32_i32 (F := Ideal)) (⊤, v) = R at h1 h3 ⊢
  have hlt : ∀ k, ¬ Before (((f k : ℝ) : EReal), BitVec.ofNat 32 k.val) R := fun k => h3 _ ((hl _).mpr ⟨k, rfl⟩)
  obtain ⟨k, rfl⟩ := (hl R).mp (h1.resolve_left fun h => hlt 0 (Or.inl (h ▸ EReal.coe_lt_top _)))
  have : IsFirst f k := by
    refine ⟨fun j => le_of_not_gt fun h => hlt j (Or.inl (EReal.coe_lt_coe_iff.mpr h)), fun j hj => ?_⟩
    refine lt_of_le_of_ne (le_of_not_gt fun h => hlt j (Or.inl (EReal.coe_lt_coe_iff.mpr h))) fun h => hlt j (Or.inr ⟨by rw [h], ?_⟩)
    rw [Consts.toInt_ofNat, Consts.toInt_ofNat]
    exact_mod_cast hj
  rw [this.eq]

/-- The search along the second axis of an array, a row of it real numbers. -/
theorem argReduce_real {n0 : Nat} {t u : Shape} (h : (⟨2, ![n0, 1024]⟩ : Shape).ReducesTo [1] t) (hu : 0 < u.numel)
    (d : FVec Ideal (⟨2, ![n0, 1024]⟩ : Shape) .f32) (y : IVec (⟨2, ![n0, 1024]⟩ : Shape) 32) (a : FVec Ideal u .f32) (v : IVec u 32) (j : t.Idx) (r : Fin n0)
    (hr : (j ⟨0, h.lt_r2_a1_0⟩).val = r.val) (f : Fin 1024 → ℝ) (hd : ∀ k, d (ix2 r k) = ((f k : ℝ) : EReal))
    (hy : ∀ k, y (ix2 r k) = BitVec.ofNat 32 k.val) (ha : ∀ i, a i = (⊤ : EReal)) :
    (Host.argReduce (F := Ideal) reducer_argmin_f32_i32 d y a v h hu j).2 = BitVec.ofNat 32 (first f).val := by
  rw [Ideal.argReduce_eq_reduce2, Host.reduce2_eq_foldl_fiber, ha]
  refine foldl_first _ f _ fun p => ?_
  rw [mem_fiber]
  have e : (⟨(j ⟨0, h.lt_r2_a1_0⟩).val, Shape.coordLt (j ⟨0, h.lt_r2_a1_0⟩) h.size_r2_a1_0⟩ : Fin n0) = r := Fin.ext hr
  rw [e]
  simp only [hd, hy]

/-- The argument minimum of an array's rows, as a function of the row. -/
theorem argminBy_eq (x : FVec Ideal S16384x1024 .f32) (y : IVec S16384x1024 32) (u : FVec Ideal S_ .f32) (v : IVec S_ 32) :
    argminBy x y u v = fun j =>
      (Host.argReduce (F := Ideal) reducer_argmin_f32_i32 x y u v reducesTo_S16384x1024_S16384_d1 h_S_ j).2 := rfl

/-- Over a row of real numbers the search finds the first index of the least. -/
theorem argmin_real (d : FVec Ideal S16384x1024 .f32) (r : Fin 16384) (f : Fin 1024 → ℝ) (hd : ∀ k, d (ix2 r k) = ((f k : ℝ) : EReal)) :
    RefTerm.argmin d (ix1 r) = BitVec.ofNat 32 (first f).val := by
  have e : RefTerm.argmin d = argminBy d (iotaInDim S16384x1024 32 1) (constant S_ .f32 0x7F800000#32) (constantI S_ 32 0#32) := rfl
  rw [e, argminBy_eq]
  exact argReduce_real reducesTo_S16384x1024_S16384_d1 h_S_ d _ _ _ (ix1 r) r rfl f hd (fun _ => rfl) (fun _ => Consts.top_f32)

/-! ## The look-up -/

/-- The rows looked up, read at an index: the row the index names, an index past the ends taken to the nearest end. -/
theorem gather_apply (e : FVec Ideal S1024x64 .f32) (idx : IVec S16x32x32x1 32) (b : Fin 16) (h w : Fin 32) (c : Fin 64) :
    Host.gather gather_S1024x64_S16x32x32x1_S16x32x32x64_3_0_n_n_0_3_164 e idx (ix4 b h w c)
      = e (ix2 ⟨min (idx (ix4 b h w (0 : Fin 1))).toInt.toNat 1023, by omega⟩ c) := by
  unfold Host.gather
  congr 1
  funext a
  refine Fin.ext ?_
  generalize hG : gather_S1024x64_S16x32x32x1_S16x32x32x64_3_0_n_n_0_3_164 = G
  show G.start (ix4 b h w c) idx a + G.batchCoord (ix4 b h w c) a + G.offCoord (ix4 b h w c) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (by subst hG; exact List.not_mem_nil),
      GatherDims.offCoord_eq_zero _ _ _ (fun h => ((GatherDims.mem_sKept _ _).mp h).1 (by subst hG; exact List.mem_singleton.mpr rfl))]
    simp only [Nat.add_zero]
    unfold GatherDims.start
    subst hG
    rw [dif_pos (show (0 : Fin 2) ∈ gather_S1024x64_S16x32x32x1_S16x32x32x64_3_0_n_n_0_3_164.startIndexMap from List.mem_singleton.mpr rfl)]
    have hsi : gather_S1024x64_S16x32x32x1_S16x32x32x64_3_0_n_n_0_3_164.siIdx (ix4 b h w c)
        ⟨List.idxOf (0 : Fin 2) gather_S1024x64_S16x32x32x1_S16x32x32x64_3_0_n_n_0_3_164.startIndexMap,
        List.idxOf_lt_length_iff.2 (List.mem_singleton.mpr rfl)⟩ = ix4 b h w (0 : Fin 1) := by
      funext x; refine Fin.ext ?_
      match x with
      | ⟨0, _⟩ => rfl
      | ⟨1, _⟩ => rfl
      | ⟨2, _⟩ => rfl
      | ⟨3, _⟩ => rfl
    rw [hsi]
    rfl
  · subst hG
    rw [GatherDims.batchCoord_eq_zero _ _ _ (List.not_mem_nil)]
    unfold GatherDims.start GatherDims.offCoord
    rw [dif_neg (by decide), dif_pos (by decide)]
    show 0 + 0 + (ix4 b h w c (3 : Fin 4)).val = _
    simp

end Cert.Search

end
-- ==== Proof.RefValue.lean ====
/-
  The reference's results over arguments of real numbers, read at an index.
-/
module

public import proofs.«01_k».proof.Proof.Search

@[expose] public section

set_option maxRecDepth 16384
noncomputable section
namespace Cert.RefValue

open Idealize.ShloMosaic Idealize.SL.Sem Cert.ReferenceIdeal Cert.ReferenceIdeal.Facts₀ Cert.RefTerm Cert.Spec

variable {z : FVec Ideal S16x64x32x32 .f32} {e : FVec Ideal S1024x64 .f32}
  {Z : Fin 16 → Fin 32 → Fin 32 → Fin 64 → ℝ} {E : Fin 1024 → Fin 64 → ℝ}

/-- The two arguments hold real numbers: the latents `Z` by image, row, column and channel, the codes `E`. -/
structure Holds (z : FVec Ideal S16x64x32x32 .f32) (e : FVec Ideal S1024x64 .f32) (Z : Fin 16 → Fin 32 → Fin 32 → Fin 64 → ℝ)
    (E : Fin 1024 → Fin 64 → ℝ) : Prop where
  latents : ∀ b c h w, z (ix4 b c h w) = ((Z b h w c : ℝ) : EReal)
  codes : ∀ k c, e (ix2 k c) = ((E k c : ℝ) : EReal)

/-- The reference's rows are the latents position by position. -/
theorem rows_apply (z : FVec Ideal S16x64x32x32 .f32) (r : Fin 16384) (c : Fin 64) :
    rows z (ix2 r c) = z (ix4 ⟨r.val / 1024, by omega⟩ c ⟨r.val / 32 % 32, by omega⟩ ⟨r.val % 32, by omega⟩) := by
  pointwise [rows]

/-- The distance of a row of real numbers to a code: the square root of the squared distance cut off at zero. -/
theorem distOf_real (x : FVec Ideal S16384x64 .f32) (e : FVec Ideal S1024x64 .f32) (r : Fin 16384) (X : Fin 64 → ℝ)
    (hx : ∀ c, x (ix2 r c) = ((X c : ℝ) : EReal)) (he : ∀ k c, e (ix2 k c) = ((E k c : ℝ) : EReal)) (k : Fin 1024) :
    distOf x e (ix2 r k) = ((Real.sqrt (max (sqd X E k) 0) : ℝ) : EReal) := by
  pointwise [distOf, dist2]
  simp only [hx, he, Consts.f2, ← EReal.coe_mul, ← coe_sum, ← EReal.coe_sub, ← EReal.coe_add]
  rw [show (0 : EReal) = ((0 : ℝ) : EReal) from rfl, ← EReal.coe_strictMono.monotone.map_max, Ideal.sqrt_coe,
    if_neg (not_lt.mpr (le_max_right _ _))]
  rfl

/-- The indices, read at an image and a place. -/
theorem cast_apply (m : IVec S16384 32) (b : Fin 16) (h w : Fin 32) :
    shapeCast S16x32x32 m shapeCasts_S16384_S16x32x32 (ix3 b h w) = m (ix1 ⟨b.val * 1024 + h.val * 32 + w.val, by omega⟩) := by
  pointwise

/-- The index at a place is the one of its row. -/
theorem indexOf_apply (d : FVec Ideal S16384x1024 .f32) (b : Fin 16) (h w : Fin 32) :
    indexOf d (ix3 b h w) = RefTerm.argmin d (ix1 ⟨b.val * 1024 + h.val * 32 + w.val, by omega⟩) := by
  have e : indexOf d = shapeCast S16x32x32 (RefTerm.argmin d) shapeCasts_S16384_S16x32x32 := rfl
  rw [e, cast_apply]

/-- The code looked up at a place. -/
theorem codeOf_apply (i : IVec S16x32x32 32) (e : FVec Ideal S1024x64 .f32) (b : Fin 16) (c : Fin 64) (h w : Fin 32) :
    codeOf e i (ix4 b c h w) = e (ix2 ⟨min (wrapped i (ix3 b h w)).toInt.toNat 1023, by omega⟩ c) := by
  have h1 : codeOf e i (ix4 b c h w) = looked e i (ix4 b h w c) := by pointwise [codeOf]
  have h2 : broadcastInDim S16x32x32x1 ![0, 1, 2] bcast_S16x32x32_S16x32x32x1_0_1_2 (wrapped i) (ix4 b h w (0 : Fin 1)) = wrapped i (ix3 b h w) := by
    pointwise
  rw [h1, looked, Search.gather_apply]
  simp only [h2]

/-- An index after a negative one is shifted up by 1024. -/
theorem wrapped_apply (i : IVec S16x32x32 32) (b : Fin 16) (h w : Fin 32) :
    wrapped i (ix3 b h w) = Scalar.select (IntOp.cmpi CmpIPredicate.slt (i (ix3 b h w)) 0#32) (IntOp.addi (i (ix3 b h w)) 1024#32) (i (ix3 b h w)) := by
  pointwise [wrapped]

/-- The distance of a row of real numbers to a code: the square root of the squared distance. -/
theorem dist_real (H : Holds z e Z E) (b : Fin 16) (h w : Fin 32) (k : Fin 1024) :
    distOf (rows z) e (ix2 ⟨b.val * 1024 + h.val * 32 + w.val, by omega⟩ k) = ((Real.sqrt (max (sqd (Z b h w) E k) 0) : ℝ) : EReal) := by
  have hx : ∀ c, rows z (ix2 ⟨b.val * 1024 + h.val * 32 + w.val, by omega⟩ c) = ((Z b h w c : ℝ) : EReal) := by
    intro c
    rw [rows_apply, ← H.latents b c h w]
    congr 2 <;> exact Fin.ext (by dsimp only; omega)
  exact distOf_real _ _ _ _ hx H.codes k

/-- The index found at a position: the nearest code's. -/
theorem index_real (H : Holds z e Z E) (b : Fin 16) (h w : Fin 32) :
    index z e (ix3 b h w) = BitVec.ofNat 32 (near (Z b h w) E).val := by
  rw [index, indexOf_apply, Search.argmin_real _ _ _ (dist_real H b h w), first_sqrt]

/-- The code looked up at a position: the nearest one. -/
theorem code_real (H : Holds z e Z E) (b : Fin 16) (c : Fin 64) (h w : Fin 32) :
    code z e (ix4 b c h w) = ((E (near (Z b h w) E) c : ℝ) : EReal) := by
  have hw : wrapped (index z e) (ix3 b h w) = BitVec.ofNat 32 (near (Z b h w) E).val := by
    rw [wrapped_apply, index_real H]
    have : IntOp.cmpi CmpIPredicate.slt (BitVec.ofNat 32 (near (Z b h w) E).val) 0#32 = 0#1 := by
      have h0 : ¬ (BitVec.ofNat 32 (near (Z b h w) E).val).toInt < 0 := by rw [Consts.toInt_ofNat]; omega
      simp [IntOp.cmpi, BitVec.slt, h0]
    rw [this]
    rfl
  have he : ∀ (n : ℕ) (hn : n < 1024) (k : Fin 1024), n = k.val → e (ix2 ⟨n, hn⟩ c) = e (ix2 k c) := by
    rintro _ _ k rfl
    rfl
  have hn : ∀ (v : BitVec 32) (k : Fin 1024), v = BitVec.ofNat 32 k.val → min v.toInt.toNat 1023 = k.val := by
    rintro _ k rfl
    rw [Consts.toInt_ofNat, Int.toNat_natCast]
    exact min_eq_left (by omega)
  rw [code, codeOf_apply]
  exact (he _ _ _ (hn _ _ hw)).trans (H.codes _ _)

/-- The reconstruction after `n` rounds: `n` times the nearest code. -/
theorem recon_real (H : Holds z e Z E) (n : ℕ) (b : Fin 16) (c : Fin 64) (h w : Fin 32) :
    recon z e n (ix4 b c h w) = (((n : ℝ) * E (near (Z b h w) E) c : ℝ) : EReal) := by
  induction n with
  | zero =>
    have : recon z e 0 (ix4 b c h w) = 0 := by pointwise [recon]
    rw [this]; simp
  | succ n ih =>
    show recon z e n (ix4 b c h w) + code z e (ix4 b c h w) = _
    rw [ih, code_real H, ← EReal.coe_add]
    congr 1
    push_cast
    ring

/-- The first result: four times the nearest code. -/
theorem out0_real (H : Holds z e Z E) (b : Fin 16) (c : Fin 64) (h w : Fin 32) :
    out0 z e (ix4 b c h w) = ((4 * E (near (Z b h w) E) c : ℝ) : EReal) := by
  show z (ix4 b c h w) + (recon z e 4 (ix4 b c h w) - z (ix4 b c h w)) = _
  rw [recon_real H, H.latents, ← EReal.coe_sub, ← EReal.coe_add]
  congr 1
  push_cast
  ring

/-! ## The loss -/

/-- The positions of the latents, each with its channel. -/
abbrev Spot := Fin 16 × Fin 64 × Fin 32 × Fin 32

/-- The nearest code's entry at a position. -/
def codeAt (Z : Fin 16 → Fin 32 → Fin 32 → Fin 64 → ℝ) (E : Fin 1024 → Fin 64 → ℝ) (p : Spot) : ℝ :=
  E (near (Z p.1 p.2.2.1 p.2.2.2) E) p.2.1

/-- The latents' entry at a position. -/
def latentAt (Z : Fin 16 → Fin 32 → Fin 32 → Fin 64 → ℝ) (p : Spot) : ℝ := Z p.1 p.2.2.1 p.2.2.2 p.2.1

/-- The mean squared difference of arrays of real numbers. -/
theorem meanSq_real (x z : FVec Ideal S16x64x32x32 .f32) (X Y : Spot → ℝ) (hx : ∀ b c h w, x (ix4 b c h w) = ((X (b, c, h, w) : ℝ) : EReal))
    (hz : ∀ b c h w, z (ix4 b c h w) = ((Y (b, c, h, w) : ℝ) : EReal)) (u : S_.Idx) :
    meanSq x z u = (((∑ p, (X p - Y p) * (X p - Y p)) / 1048576 : ℝ) : EReal) := by
  have h1 : meanSq x z u = Ideal.div (Ideal.hostReduceAdd reducesTo_S16x64x32x32_S_d0_1_2_3 (mulf (subf x z) (subf x z)) 0 u)
      (Ideal.ofBits FTy.f32 1233125376#32) := by pointwise [meanSq]
  have h2 : Ideal.hostReduceAdd reducesTo_S16x64x32x32_S_d0_1_2_3 (mulf (subf x z) (subf x z)) 0 u
      = ∑ i : S16x64x32x32.Idx, mulf (subf x z) (subf x z) i := by
    rw [Ideal.hostReduceAdd, zero_add, Finset.filter_true_of_mem fun i _ => funext fun a => a.elim0]
  have h3 : ∀ b c h w, mulf (subf x z) (subf x z) (ix4 b c h w) = (((X (b, c, h, w) - Y (b, c, h, w)) * (X (b, c, h, w) - Y (b, c, h, w)) : ℝ) : EReal) := by
    intro b c h w
    show (x (ix4 b c h w) - z (ix4 b c h w)) * (x (ix4 b c h w) - z (ix4 b c h w)) = _
    rw [hx, hz, ← EReal.coe_sub, ← EReal.coe_mul]
  rw [h1, h2, sum_idx4, Consts.f1048576, Ideal.div_coe (by norm_num)]
  simp only [h3, ← coe_sum]
  rw [← EReal.coe_mul]
  congr 1
  simp only [Fintype.sum_prod_type]
  ring

/-- The second result: the four rounds' losses averaged, from three sums over all positions. -/
theorem out1_real (H : Holds z e Z E) (u : S_.Idx) :
    out1 z e u = ((0.3125 * (30 * (∑ p, codeAt Z E p * codeAt Z E p) - 20 * (∑ p, codeAt Z E p * latentAt Z p)
      + 4 * ∑ p, latentAt Z p * latentAt Z p) / 1048576 : ℝ) : EReal) := by
  rw [← loss_identity (codeAt Z E) (latentAt Z)]
  have hm : ∀ n : ℕ, meanSq (recon z e n) z u
      = (((∑ p, ((n : ℝ) * codeAt Z E p - latentAt Z p) * ((n : ℝ) * codeAt Z E p - latentAt Z p)) / 1048576 : ℝ) : EReal) :=
    fun n => meanSq_real _ _ (fun p => (n : ℝ) * codeAt Z E p) (latentAt Z) (recon_real H n) H.latents u
  have hs : ∀ (l : FVec Ideal S_ .f32) (x y : FVec Ideal S16x64x32x32 .f32),
      lossStep l x y u = l u + Ideal.ofBits .f32 0x3E800000#32 * meanSq x y u + meanSq x y u := by
    intro l x y
    pointwise [lossStep]
  have h0 : loss z e 0 u = ((0 : ℝ) : EReal) := by
    pointwise [loss]
    exact EReal.coe_zero.symm
  have hd : out1 z e u = Ideal.div (loss z e 4 u) (Ideal.ofBits .f32 0x40800000#32) := by pointwise [out1]
  have hl : ∀ n, loss z e (n + 1) u = loss z e n u + Ideal.ofBits .f32 0x3E800000#32 * meanSq (recon z e (n + 1)) z u + meanSq (recon z e (n + 1)) z u :=
    fun n => hs _ _ _
  rw [hd, hl, hl, hl, hl, h0, hm, hm, hm, hm, Consts.quarter, Consts.f4, Ideal.div_coe (by norm_num)]
  simp only [← EReal.coe_mul, ← EReal.coe_add]
  congr 1
  push_cast
  ring

end Cert.RefValue

end
-- ==== Proof.Blocks.lean ====
/-
  The kernel's windows at each of its sixteen grid points, one image of latents each: what it reads, what it leaves in
  the two block outputs, and the three sums it carries from point to point.
-/
module

public import proofs.«01_k».proof.Proof.Sums
public import proofs.«01_k».proof.Proof.RefValue
public import Idealize.ShloMosaic.Lib.Pipeline.ValueKit
public import Idealize.ShloMosaic.Lib.Pipeline.ReadBack
public import Idealize.ShloMosaic.Lib.Claim

@[expose] public section

set_option maxRecDepth 16384
noncomputable section
namespace Cert.Blocks

open Idealize.ShloMosaic Idealize.SL.Sem Cert.KernelIdeal Cert.KernelIdeal.Gen Cert.Block Cert.Spec

/-! ## Sums over images -/

/-- The rows of an image, in reading order of their places. -/
def rows (Z : Fin 16 → Fin 32 → Fin 32 → Fin 64 → ℝ) (b : Fin 16) : Fin 1024 → Fin 64 → ℝ :=
  fun r => Z b ⟨r.val / 32, by omega⟩ ⟨r.val % 32, by omega⟩

/-- The three sums of an image: squares of codes, products of codes and latents, squares of latents. -/
def parts (Z : Fin 16 → Fin 32 → Fin 32 → Fin 64 → ℝ) (E : Fin 1024 → Fin 64 → ℝ) (k : Fin 3) (b : Fin 16) : ℝ :=
  ![sumQQ (rows Z b) E, sumQX (rows Z b) E, sumXX (rows Z b)] k

/-- A sum over the images up to one of them. -/
def upTo (f : Fin 16 → ℝ) (n : Nat) : ℝ := ∑ s ∈ Finset.range (n + 1), if h : s < 16 then f ⟨s, h⟩ else 0

/-- The sum up to the first image is its own. -/
theorem upTo_zero (f : Fin 16 → ℝ) : upTo f 0 = f 0 := by simp [upTo]

/-- One image more adds its own. -/
theorem upTo_succ (f : Fin 16 → ℝ) (n : Nat) (h : n + 1 < 16) : upTo f (n + 1) = upTo f n + f ⟨n + 1, h⟩ := by
  unfold upTo
  rw [Finset.sum_range_succ, dif_pos h]

/-- The sum up to the last image is over all of them. -/
theorem upTo_last (f : Fin 16 → ℝ) : upTo f 15 = ∑ b, f b := by
  unfold upTo
  rw [Finset.sum_range]
  exact Finset.sum_congr rfl fun b _ => dif_pos b.isLt

/-- A cell of the carried sums, read back. -/
theorem cell (X : Vec Ideal S3 .f32) (o : Nat) (k : Fin 3) (hk : o = k.val) (inb : ∀ a, (![o] : Fin 1 → Nat) a + (![1] : Fin 1 → Nat) a ≤ S3.size a)
    (y : (Rect.unit (s := S3) ![o] ![1] inb).shape.Idx) : View.ld X (Rect.unit ![o] ![1] inb) y = X (ix1 k) := by
  refine congrArg X (funext fun a => ?_)
  rw [Subsingleton.elim a 0]
  apply Fin.ext
  have hy : (y 0).val < 1 := (y 0).isLt
  show o + 1 * (y 0).val = k.val
  omega

variable (m : (ℓ : Loc nD τ sig) → Buf (Elt Ideal) ℓ) (c : Dev nD)

/-- The latents the kernel is given. -/
abbrev latents : Vec Ideal S16x64x32x32 .f32 := m ((c.tc : Thread nD τ).loc main_arg0)

/-- The codebook the kernel is given. -/
abbrev codebook : Vec Ideal S1024x64 .f32 := m ((c.tc : Thread nD τ).loc main_arg1)

/-! ## What a grid point reads -/

/-- The blocks each window takes at a grid point. -/
theorem idx : ∀ t : Fin cfg0.N, win0_0.index t = ![t.val, 0, 0, 0] ∧ win0_1.index t = ![0, 0] ∧ win0_2.index t = ![0, 0]
    ∧ win0_3.index t = ![t.val, 0, 0, 0] ∧ win0_4.index t = ![t.val, 0] :=
  (by decide +kernel : ∀ t : Fin grid0.N, _)

/-- The latents enter with their channels last. -/
theorem entry0 : V m c main_v0 = transpose S16x32x32x64 [0, 2, 3, 1] (latents m c) transposes_S16x64x32x32_S16x32x32x64_0_2_3_1 := by
  unfold V; after_results; try rfl

/-- The codebook enters a second time with its channels first. -/
theorem entry1 : V m c main_v1 = transpose S64x1024 [1, 0] (codebook m c) transposes_S1024x64_S64x1024_1_0 := by
  unfold V; after_results; try rfl

variable (t : Fin cfg0.N)

/-- The image of a grid point. -/
abbrev image : Fin 16 := ⟨t.val, lt_of_lt_of_eq t.isLt N_0⟩

/-- The latents' block of a grid point is its image, the channel last. -/
theorem block0 (u : Fin 1) (i j : Fin 32) (k : Fin 64) :
    iblk m c 0 t (ix4 u i j k) = latents m c (ix4 (image t) k i j) := by
  have h : iblk m c 0 t (ix4 u i j k) = V m c main_v0 (ix4 (image t) i j k) := by blk_ext [iblk, idx t]
  rw [h, entry0]
  pointwise []
  rfl

/-- The codebook's block is the whole codebook. -/
theorem block1 (i : Fin 1024) (k : Fin 64) : iblk m c 1 t (ix2 i k) = codebook m c (ix2 i k) := by
  blk_ext [iblk, V_main_arg1, idx t]

/-- The second codebook's block is the whole codebook, turned. -/
theorem block2 (k : Fin 64) (i : Fin 1024) : iblk m c 2 t (ix2 k i) = codebook m c (ix2 i k) := by
  have h : iblk m c 2 t (ix2 k i) = V m c main_v1 (ix2 k i) := by blk_ext [iblk, idx t]
  rw [h, entry1]
  pointwise []

variable {Z : Fin 16 → Fin 32 → Fin 32 → Fin 64 → ℝ} {E : Fin 1024 → Fin 64 → ℝ}
  (H : RefValue.Holds (latents m c) (codebook m c) Z E)
include H

/-- A grid point reads the rows of its image and the codebook. -/
theorem reads : Reads (iblk m c 0 t) (iblk m c 1 t) (iblk m c 2 t) (rows Z (image t)) E where
  rows r k := by rw [block0, H.latents]; rfl
  book k i := by rw [block1, H.codes]
  bookT i k := by rw [block2, H.codes]

/-! ## The block outputs -/

/-- A grid point leaves its image's codes, multiplied by four. -/
theorem out3 (u : Fin 1) (i j : Fin 32) (k : Fin 64) : (outsAt0 m c t.val t.isLt).1 (ix4 u i j k)
    = ((4 * E (near (Z (image t) i j) E) k : ℝ) : EReal) := by
  have hx : rows Z (image t) ⟨i.val * 32 + j.val, by omega⟩ = Z (image t) i j := by
    unfold rows; congr 1 <;> (apply Fin.ext; dsimp only; omega)
  have hb := codes_block (reads m c t H) u i j k
  rw [hx] at hb
  by_cases h0 : t.val % 16 = 0
  · have h1 : ¬ 1 ≤ t.val := by have := (image t).isLt; simp at this; omega
    rw [outsAt0_A m c t h0 h1 (by omega)]
    frame_out
    exact hb
  · have h1 : 1 ≤ t.val := by omega
    by_cases h2 : t.val % 16 = 15
    · rw [outsAt0_C m c t h0 h1 h2]
      frame_out
      exact hb
    · rw [outsAt0_B m c t h0 h1 h2]
      frame_out
      exact hb

/-- A grid point leaves its image's numbers. -/
theorem out4 (r : Fin 1024) (u : Fin 1) : (outsAt0 m c t.val t.isLt).2.1 (ix2 r u)
    = BitVec.ofNat 32 (near (rows Z (image t) r) E).val := by
  by_cases h0 : t.val % 16 = 0
  · have h1 : ¬ 1 ≤ t.val := by have := (image t).isLt; simp at this; omega
    rw [outsAt0_A m c t h0 h1 (by omega)]
    frame_out
    canon_tiles x h
    · rw [pay46_eq]; exact word_at (reads m c t H) 768 Block.h3 (by omega) x r h0
    · rw [pay36_eq]; exact word_at (reads m c t H) 512 Block.h2 (by omega) x r h0
    · rw [pay26_eq]; exact word_at (reads m c t H) 256 Block.h1 (by omega) x r h0
    · rw [pay16_eq]; exact word_at (reads m c t H) 0 Block.h0 (by omega) x r (by rw [Nat.zero_add]; exact h0)
  · have h1 : 1 ≤ t.val := by omega
    by_cases h2 : t.val % 16 = 15
    · rw [outsAt0_C m c t h0 h1 h2]
      frame_out
      canon_tiles x h
      · rw [pay46_eq]; exact word_at (reads m c t H) 768 Block.h3 (by omega) x r h0
      · rw [pay36_eq]; exact word_at (reads m c t H) 512 Block.h2 (by omega) x r h0
      · rw [pay26_eq]; exact word_at (reads m c t H) 256 Block.h1 (by omega) x r h0
      · rw [pay16_eq]; exact word_at (reads m c t H) 0 Block.h0 (by omega) x r (by rw [Nat.zero_add]; exact h0)
    · rw [outsAt0_B m c t h0 h1 h2]
      frame_out
      canon_tiles x h
      · rw [pay46_eq]; exact word_at (reads m c t H) 768 Block.h3 (by omega) x r h0
      · rw [pay36_eq]; exact word_at (reads m c t H) 512 Block.h2 (by omega) x r h0
      · rw [pay26_eq]; exact word_at (reads m c t H) 256 Block.h1 (by omega) x r h0
      · rw [pay16_eq]; exact word_at (reads m c t H) 0 Block.h0 (by omega) x r (by rw [Nat.zero_add]; exact h0)

/-! ## The carried sums -/

/-- A point between the first and the last adds its image's sums to those carried to it. -/
theorem step (h0 : ¬ t.val % 16 = 0) (h1 : 1 ≤ t.val) (h2 : ¬ t.val % 16 = 15) (P : Fin 3 → ℝ)
    (ih : ∀ k, (outsAt0 m c (t.val - 1) (lt_of_le_of_lt (Nat.sub_le _ _) t.isLt)).2.2.2 (ix1 k) = (P k : EReal)) (k : Fin 3) :
    (outsAt0 m c t.val t.isLt).2.2.2 (ix1 k) = ((P k + parts Z E k (image t) : ℝ) : EReal) := by
  rw [outsAt0_B m c t h0 h1 h2]
  frame_out
  canon_tiles x h
  · have hk : k = 2 := by apply Fin.ext; have : k.val = 2 + (x 0).val := h0; omega
    subst hk
    rw [pay7_eq, third_sum (reads m c t H), read_unread_whole, cell _ 2 2 rfl, ih, ← EReal.coe_add]
    rfl
  · have hk : k = 1 := by apply Fin.ext; have : k.val = 1 + (x 0).val := h0; omega
    subst hk
    rw [pay6_eq, second_sum (reads m c t H), read_unread_whole, cell _ 1 1 rfl, ih, ← EReal.coe_add]
    rfl
  · have hk : k = 0 := by apply Fin.ext; have : k.val = (x 0).val := h0; omega
    subst hk
    rw [pay5_eq, first_sum (reads m c t H), read_unread_whole, cell _ 0 0 rfl, ih, ← EReal.coe_add]
    rfl

/-- The first point leaves its image's sums. -/
theorem start (h0 : t.val % 16 = 0) (h1 : ¬ 1 ≤ t.val) (k : Fin 3) :
    (outsAt0 m c t.val t.isLt).2.2.2 (ix1 k) = (parts Z E k (image t) : EReal) := by
  rw [outsAt0_A m c t h0 h1 (by omega)]
  frame_out
  canon_tiles x h
  · have hk : k = 2 := by apply Fin.ext; have : k.val = 2 + (x 0).val := h0; omega
    subst hk
    exact third_sum (reads m c t H)
  · have hk : k = 1 := by apply Fin.ext; have : k.val = 1 + (x 0).val := h0; omega
    subst hk
    exact second_sum (reads m c t H)
  · have hk : k = 0 := by apply Fin.ext; have : k.val = (x 0).val := h0; omega
    subst hk
    exact first_sum (reads m c t H)

/-- The last point makes the loss of the sums carried to it and its image's own. -/
theorem last (h0 : ¬ t.val % 16 = 0) (h1 : 1 ≤ t.val) (h2 : t.val % 16 = 15) (P : Fin 3 → ℝ)
    (ih : ∀ k, (outsAt0 m c (t.val - 1) (lt_of_le_of_lt (Nat.sub_le _ _) t.isLt)).2.2.2 (ix1 k) = (P k : EReal)) (u : Fin 1) :
    (outsAt0 m c t.val t.isLt).2.2.1 (ix1 u)
      = ((0.3125 * (30 * (P 0 + parts Z E 0 (image t)) - 20 * (P 1 + parts Z E 1 (image t)) + 4 * (P 2 + parts Z E 2 (image t))) / 1048576 : ℝ) : EReal) := by
  rw [outsAt0_C m c t h0 h1 h2]
  frame_out
  rw [pay5_eq, pay6_eq, pay7_eq, first_sum (reads m c t H), second_sum (reads m c t H), third_sum (reads m c t H), read_unread_whole,
    cell _ 0 0 rfl, cell _ 1 1 rfl, cell _ 2 2 rfl, ih, ih, ih, ← EReal.coe_add, ← EReal.coe_add, ← EReal.coe_add]
  exact pay8_real _ _ _

/-- The sums carried out of a point before the last are those of the images so far. -/
theorem carried : ∀ (n : Nat) (hn : n < cfg0.N), n < 15 → ∀ k,
    (outsAt0 m c n hn).2.2.2 (ix1 k) = (upTo (parts Z E k) n : EReal) := by
  intro n
  induction n with
  | zero =>
    intro hn _ k
    rw [upTo_zero]
    exact start m c ⟨0, hn⟩ H rfl (by simp) k
  | succ n ih =>
    intro hn hl k
    rw [upTo_succ _ _ (by omega)]
    exact step m c ⟨n + 1, hn⟩ H (by dsimp only; omega) (by dsimp only; omega) (by dsimp only; omega) (fun k => upTo (parts Z E k) n)
      (fun k => ih (Nat.lt_of_succ_lt hn) (by omega) k) k

/-- The last point leaves the loss of all sixteen images. -/
theorem out5 (u : Fin 1) : (outsAt0 m c t0_15.val t0_15.isLt).2.2.1 (ix1 u)
    = ((0.3125 * (30 * (∑ b, parts Z E 0 b) - 20 * (∑ b, parts Z E 1 b) + 4 * (∑ b, parts Z E 2 b)) / 1048576 : ℝ) : EReal) := by
  have h := last m c t0_15 H (by decide) (by decide) (by decide) (fun k => upTo (parts Z E k) 14)
    (fun k => carried m c H 14 (by rw [show cfg0.N = 16 from N_0]; decide) (by decide) k) u
  rw [h, ← upTo_last, ← upTo_last, ← upTo_last, upTo_succ _ 14 (by decide), upTo_succ _ 14 (by decide), upTo_succ _ 14 (by decide)]
  rfl

end Cert.Blocks

end
-- ==== Proof.Arrays.lean ====
/-
  What the kernel's three output arrays hold once every grid point has written its blocks back.
-/
module

public import proofs.«01_k».proof.Proof.Blocks

@[expose] public section

set_option maxRecDepth 16384
noncomputable section
namespace Cert.Arrays

open Idealize.ShloMosaic Idealize.SL.Sem Cert.KernelIdeal Cert.KernelIdeal.Gen Cert.Block Cert.Spec Cert.Blocks

variable (m : (ℓ : Loc nD τ sig) → Buf (Elt Ideal) ℓ) (c : Dev nD)
  {Z : Fin 16 → Fin 32 → Fin 32 → Fin 64 → ℝ} {E : Fin 1024 → Fin 64 → ℝ}

/-- The quantized latents, channels last, multiplied by four. -/
def quantized (Z : Fin 16 → Fin 32 → Fin 32 → Fin 64 → ℝ) (E : Fin 1024 → Fin 64 → ℝ) : Vec Ideal S16x32x32x64 .f32 :=
  fun i => ((4 * E (near (Z (i 0) (i 1) (i 2)) E) (i 3) : ℝ) : EReal)

/-- The column of numbers, image after image. -/
def numbers (Z : Fin 16 → Fin 32 → Fin 32 → Fin 64 → ℝ) (E : Fin 1024 → Fin 64 → ℝ) : Vec Ideal S16384x1 .i32 :=
  fun i => BitVec.ofNat 32 (near (rows Z ⟨(i 0).val / 1024, by have : (i 0).val < 16384 := (i 0).isLt; omega⟩
    ⟨(i 0).val % 1024, by omega⟩) E).val

/-- The loss, out of the images' sums. -/
def loss (Z : Fin 16 → Fin 32 → Fin 32 → Fin 64 → ℝ) (E : Fin 1024 → Fin 64 → ℝ) : Vec Ideal S1 .f32 :=
  fun _ => ((0.3125 * (30 * (∑ b, parts Z E 0 b) - 20 * (∑ b, parts Z E 1 b) + 4 * (∑ b, parts Z E 2 b)) / 1048576 : ℝ) : EReal)

/-- The column of numbers at a row of an image. -/
theorem numbers_at (Z : Fin 16 → Fin 32 → Fin 32 → Fin 64 → ℝ) (E : Fin 1024 → Fin 64 → ℝ) (b : Fin 16) (r : Fin 1024) (u : Fin 1) :
    numbers Z E (ix2 ⟨b.val * 1024 + r.val, by omega⟩ u) = BitVec.ofNat 32 (near (rows Z b r) E).val := by
  have e : ∀ (b' : Fin 16) (r' : Fin 1024), b' = b → r' = r →
      BitVec.ofNat 32 (near (rows Z b' r') E).val = BitVec.ofNat 32 (near (rows Z b r) E).val := by
    rintro _ _ rfl rfl; rfl
  refine e _ _ (Fin.ext ?_) (Fin.ext ?_)
  · show (b.val * 1024 + r.val) / 1024 = b.val; omega
  · show (b.val * 1024 + r.val) % 1024 = r.val; omega

variable (H : RefValue.Holds (latents m c) (codebook m c) Z E)
include H

/-- The first output array ends as the quantized latents. -/
theorem array3 : (dats m 0 c).arrAt 3 (cfgs 0).N = quantized Z E := by
  refine (dats m 0 c).arrAt_eq_of_covers 3 _ (by decide +kernel) fun t _ y => ?_
  blk_simp
  rw [after0_3]
  obtain ⟨u, i, j, k, rfl⟩ : ∃ (u : Fin 1) (i j : Fin 32) (k : Fin 64), y = ix4 u i j k := ⟨y 0, y 1, y 2, y 3, eq_ix4 y⟩
  have hy : (win0_3.blk t).view.emb (ix4 u i j k) = ix4 (image t) i j k := by blk_ext [idx t]
  rw [hy]
  exact out3 m c t H u i j k

/-- The second output array ends as the column of numbers. -/
theorem array4 : (dats m 0 c).arrAt 4 (cfgs 0).N = numbers Z E := by
  refine (dats m 0 c).arrAt_eq_of_covers 4 _ (by decide +kernel) fun t _ y => ?_
  blk_simp
  rw [after0_4]
  obtain ⟨r, u, rfl⟩ : ∃ (r : Fin 1024) (u : Fin 1), y = ix2 r u := ⟨y 0, y 1, eq_ix2 y⟩
  have ht := (image t).isLt
  have hy : (win0_4.blk t).view.emb (ix2 r u) = ix2 ⟨(image t).val * 1024 + r.val, by omega⟩ u := by blk_ext [idx t]
  rw [hy]
  refine (out4 m c t H r u).trans ?_
  exact (numbers_at Z E (image t) r u).symm

/-- The third output array ends as the loss. -/
theorem array5 : (dats m 0 c).arrAt 5 (cfgs 0).N = loss Z E := by
  refine (dats m 0 c).arrAt_eq_of_after_last 5 t0_15 (by decide +kernel) _ fun j => ?_
  blk_simp
  rw [after0_5]
  obtain ⟨u, rfl⟩ : ∃ (u : Fin 1), j = ix1 u := ⟨j 0, eq_ix1 j⟩
  exact out5 m c H u

end Cert.Arrays

end
-- ==== Proof.Final.lean ====
/-
  The kernel's run, with its three results as the reference's terms over real arguments: the lines after the kernel's
  grid applied to the three output arrays.
-/
module

public import proofs.«01_k».proof.Proof.Arrays

@[expose] public section

set_option maxRecDepth 16384
noncomputable section
namespace Cert.Final

open Idealize.ShloMosaic Idealize.SL.Sem Cert.KernelIdeal Cert.KernelIdeal.Gen Cert.Block Cert.Spec Cert.Blocks Cert.Arrays

/-! ## The lines after the grid -/

section tail
variable (W : Valuation τ sig (Elt Ideal))

/-- The first result is the quantized latents with the channels moved back. -/
theorem tail3 (A : Vec Ideal S16x32x32x64 .f32) (h : W (Proc.tc.devRef main_v2_0) = A) :
    StableHlo.after (hostOps1 (F := Ideal)) W (Proc.tc.devRef main_v3)
      = transpose S16x64x32x32 [0, 3, 1, 2] A transposes_S16x32x32x64_S16x64x32x32_0_3_1_2 := by
  subst h
  after_results; try rfl

/-- The second result is the loss. -/
theorem tail6 (A : Vec Ideal S1 .f32) (h : W (Proc.tc.devRef main_v2_2) = A) :
    StableHlo.after (hostOps1 (F := Ideal)) W (Proc.tc.devRef main_v6) = shapeCast S_ A shapeCasts_S1_S_ := by
  subst h
  after_results; try rfl

/-- The numbers, image by image. -/
def grid (A : Vec Ideal S16384x1 .i32) : Vec Ideal S16x32x32 .i32 := shapeCast S16x32x32 A shapeCasts_S16384x1_S16x32x32

/-- The third result is the numbers, four times over. -/
theorem tail5 (A : Vec Ideal S16384x1 .i32) (h : W (Proc.tc.devRef main_v2_1) = A) :
    StableHlo.after (hostOps1 (F := Ideal)) W (Proc.tc.devRef main_v5) = RefTerm.four (grid A) (grid A) (grid A) (grid A) := by
  subst h
  after_results; try rfl

end tail

/-! ## The results as the reference's terms -/

section results
variable {z : Vec Ideal S16x64x32x32 .f32} {e : Vec Ideal S1024x64 .f32}
  {Z : Fin 16 → Fin 32 → Fin 32 → Fin 64 → ℝ} {E : Fin 1024 → Fin 64 → ℝ} (H : RefValue.Holds z e Z E)

/-- A sum over images, rows and channels is a sum over the latents' places. -/
theorem sum_spots (Z : Fin 16 → Fin 32 → Fin 32 → Fin 64 → ℝ) (f : (Fin 64 → ℝ) → Fin 64 → ℝ) :
    (∑ b, ∑ r, ∑ k, f (rows Z b r) k) = ∑ p : RefValue.Spot, f (Z p.1 p.2.2.1 p.2.2.2) p.2.1 := by
  rw [Fintype.sum_prod_type]
  refine Finset.sum_congr rfl fun b _ => ?_
  rw [Fintype.sum_prod_type, Finset.sum_comm]
  refine Finset.sum_congr rfl fun k _ => ?_
  rw [Fintype.sum_prod_type, Fin.sum_univ_tiles 32 32 rfl]
  refine Finset.sum_congr rfl fun i _ => Finset.sum_congr rfl fun j _ => ?_
  have e : ∀ i' j' : Fin 32, i' = i → j' = j → f (Z b i' j') k = f (Z b i j) k := by rintro _ _ rfl rfl; rfl
  refine e _ _ (Fin.ext ?_) (Fin.ext ?_) <;> dsimp only <;> omega

/-- The images' sums of squared codes, as one sum. -/
theorem sum_qq (Z : Fin 16 → Fin 32 → Fin 32 → Fin 64 → ℝ) (E : Fin 1024 → Fin 64 → ℝ) :
    (∑ b, parts Z E 0 b) = ∑ p, RefValue.codeAt Z E p * RefValue.codeAt Z E p :=
  sum_spots Z fun x k => E (near x E) k * E (near x E) k

/-- The images' sums of products, as one sum. -/
theorem sum_qx (Z : Fin 16 → Fin 32 → Fin 32 → Fin 64 → ℝ) (E : Fin 1024 → Fin 64 → ℝ) :
    (∑ b, parts Z E 1 b) = ∑ p, RefValue.codeAt Z E p * RefValue.latentAt Z p :=
  sum_spots Z fun x k => E (near x E) k * x k

/-- The images' sums of squared latents, as one sum. -/
theorem sum_xx (Z : Fin 16 → Fin 32 → Fin 32 → Fin 64 → ℝ) (E : Fin 1024 → Fin 64 → ℝ) :
    (∑ b, parts Z E 2 b) = ∑ p, RefValue.latentAt Z p * RefValue.latentAt Z p :=
  sum_spots Z fun x k => x k * x k

include H

/-- The quantized latents are the reference's. -/
theorem result0 : transpose S16x64x32x32 [0, 3, 1, 2] (quantized Z E) transposes_S16x32x32x64_S16x64x32x32_0_3_1_2 = RefTerm.out0 z e := by
  funext y
  obtain ⟨b, k, i, j, rfl⟩ : ∃ (b : Fin 16) (k : Fin 64) (i j : Fin 32), y = ix4 b k i j := ⟨y 0, y 1, y 2, y 3, eq_ix4 y⟩
  rw [RefValue.out0_real H]
  pointwise []
  rfl

/-- The loss is the reference's. -/
theorem result1 : shapeCast S_ (loss Z E) shapeCasts_S1_S_ = RefTerm.out1 z e := by
  funext y
  rw [RefValue.out1_real H, ← sum_qq, ← sum_qx, ← sum_xx]
  rfl

/-- The numbers are the reference's. -/
theorem result2 : grid (numbers Z E) = RefTerm.index z e := by
  funext y
  obtain ⟨b, i, j, rfl⟩ : ∃ (b : Fin 16) (i j : Fin 32), y = ix3 b i j := ⟨y 0, y 1, y 2, eq_ix3 y⟩
  rw [RefValue.index_real H]
  have h : grid (numbers Z E) (ix3 b i j) = numbers Z E (ix2 ⟨b.val * 1024 + (i.val * 32 + j.val), by omega⟩ 0) := by
    pointwise [grid]
    exact congrArg (fun q : Fin 16384 => numbers Z E (ix2 q 0)) (Fin.ext (Nat.add_assoc _ _ _))
  rw [h, numbers_at Z E b ⟨i.val * 32 + j.val, by omega⟩ 0]
  have e : ∀ i' j' : Fin 32, i' = i → j' = j → BitVec.ofNat 32 (near (Z b i' j') E).val = BitVec.ofNat 32 (near (Z b i j) E).val := by
    rintro _ _ rfl rfl; rfl
  refine e _ _ (Fin.ext ?_) (Fin.ext ?_) <;> dsimp only <;> omega

end results

/-- The kernel's run over real arguments: every execution ends with the reference's three results and the arguments as
    they were. -/
theorem run (m : (ℓ : Loc nD τ sig) → Buf (Elt Ideal) ℓ) (g : Dev nD → PrngReg)
    (hm : ∀ c, ∃ Z E, RefValue.Holds (latents m c) (codebook m c) Z E) :
    θ_run (defs (F := Ideal)) (onTc (τ := τ) (main (F := Ideal))) ⟨m, fun _ => 0, g⟩ (fun r => ∀ c : Dev nD,
      r.2.mem ((c.tc : Thread nD τ).loc main_v3) = RefTerm.out0 (latents m c) (codebook m c)
      ∧ r.2.mem ((c.tc : Thread nD τ).loc main_v6) = RefTerm.out1 (latents m c) (codebook m c)
      ∧ r.2.mem ((c.tc : Thread nD τ).loc main_v5) = RefTerm.out2 (latents m c) (codebook m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m g & unchanged m g
  · obtain ⟨Z, E, H⟩ := hm c
    refine (tail3 _ (quantized Z E) ?_).trans (result0 H)
    exact (Pipeline.withArrays_arr (cfgs 0).spec launch0.win.arr_inj c _ _ 3).trans (array3 m c H)
  · obtain ⟨Z, E, H⟩ := hm c
    refine (tail6 _ (loss Z E) ?_).trans (result1 H)
    exact (Pipeline.withArrays_arr (cfgs 0).spec launch0.win.arr_inj c _ _ 5).trans (array5 m c H)
  · obtain ⟨Z, E, H⟩ := hm c
    refine (tail5 _ (numbers Z E) ?_).trans ?_
    · exact (Pipeline.withArrays_arr (cfgs 0).spec launch0.win.arr_inj c _ _ 4).trans (array4 m c H)
    · rw [result2 H]; rfl

end Cert.Final

end
-- ==== Proof.Finite.lean ====
/-
  The precondition read as a fact about the arguments: when every entry's magnitude is below infinity, every entry is a
  real number.
-/
module

public import proofs.«01_k».proof.Proof.RefValue
public import proofs.«01_k».proof.Proof.Gen.Pre_finite
public import Idealize.ShloMosaic.Lib.ReduceAll

@[expose] public section

set_option maxRecDepth 16384
noncomputable section
namespace Cert.Finite

open Idealize.ShloMosaic Cert.Pre_finite

/-- A value whose magnitude is below infinity is no infinity. -/
theorem real_of_lt (x : EReal) (h : Ideal.cmp .olt (max x (-x)) (Ideal.ofBits .f32 0x7F800000#32) = 1#1) : x ≠ ⊤ ∧ x ≠ ⊥ := by
  rw [Consts.top_f32] at h
  constructor <;> rintro rfl <;> simp [Ideal.cmp] at h

/-- Two bits whose conjunction is set are both set. -/
theorem and_one (a b : BitVec 1) (h : IntOp.andi a b = 1#1) : a = 1#1 ∧ b = 1#1 := by
  revert a b; decide

/-- The precondition: every entry of both arguments is real. -/
theorem entries [Cert.Pre_finite.Facts] (z : FVec Ideal S16x64x32x32 .f32) (e : FVec Ideal S1024x64 .f32) (h : fn z e = fun _ => 1#1) :
    (∀ i, (z i : EReal) ≠ ⊤ ∧ (z i : EReal) ≠ ⊥) ∧ ∀ i, (e i : EReal) ≠ ⊤ ∧ (e i : EReal) ≠ ⊥ := by
  have h0 := congrFun h ix0
  dsimp only [fn] at h0
  obtain ⟨h1, h2⟩ := and_one _ _ h0
  exact ⟨fun i => real_of_lt _ (Host.reduce_andi_all _ _ _ _ _ h1 i), fun i => real_of_lt _ (Host.reduce_andi_all _ _ _ _ _ h2 i)⟩

/-- Under the precondition both arguments hold reals. -/
theorem holds [Cert.Pre_finite.Facts] (z : FVec Ideal S16x64x32x32 .f32) (e : FVec Ideal S1024x64 .f32) (h : fn z e = fun _ => 1#1) :
    ∃ Z E, RefValue.Holds z e Z E := by
  obtain ⟨hz, he⟩ := entries z e h
  obtain ⟨Z, hZ⟩ := Spec.exists_real z hz
  obtain ⟨E, hE⟩ := Spec.exists_real e he
  exact ⟨fun b i j k => Z (ix4 b k i j), fun i k => E (ix2 i k), ⟨fun b k i j => hZ _, fun i k => hE _⟩⟩

end Cert.Finite

end
-- ==== Proof.lean ====
/-
  The proof of `Cert.Claim` (proofs.«01_k».proof.Defs): the frames of the kernel, of its printed ideal form and of the
  reference, that the ideal form keeps the kernel's operations, and that over the reals, on finite arguments, the kernel
  ends with the reference's three results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefFrame
public import proofs.«01_k».proof.Proof.RefRun
public import proofs.«01_k».proof.Proof.Final
public import proofs.«01_k».proof.Proof.Finite
public import Idealize.ShloMosaic.Adequacy
public import Idealize.ShloMosaic.Init

@[expose] public section

noncomputable section

namespace Cert.Proof

open Idealize.ShloMosaic Idealize.SL.Sem Cert.Kernel

/-- On finite arguments the kernel and the reference, run over the reals, end with the same three results. -/
theorem algebraic : Cert.algebraic_KernelIdeal_ReferenceIdeal_pre_finite := by
  intro m g m' g' hpre hagree
  have hm : ∀ c, ∃ Z E, RefValue.Holds (Blocks.latents m c) (Blocks.codebook m c) Z E := fun c => Finite.holds _ _ (hpre c)
  refine ⟨fun c => RefTerm.out0 (Blocks.latents m c) (Blocks.codebook m c), fun c => RefTerm.out1 (Blocks.latents m c) (Blocks.codebook m c),
    fun c => RefTerm.out2 (Blocks.latents m c) (Blocks.codebook m c), ?_, ?_⟩
  · exact Final.run m g hm
  · refine (θ_run _ _ _).mono (fun r h c => ?_) (RefRun.run m' g')
    obtain ⟨h0, h1, h2, h3, h4⟩ := h c
    obtain ⟨e0, e1⟩ := hagree c
    refine ⟨h0.trans ?_, h1.trans ?_, h2.trans ?_, h3, h4⟩ <;> rw [e0, e1]

/-- The certificate's claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  Cert.RefFrame.frame, Cert.RefFrame.frame_finite, trivial, algebraic⟩

end Cert.Proof

end
